-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v457) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S1x256x3584 : Shape := ⟨3, ![1, 256, 3584]⟩
abbrev S18944x3584 : Shape := ⟨2, ![18944, 3584]⟩
abbrev S18944 : Shape := ⟨1, ![18944]⟩
abbrev S_ : Shape := ⟨0, ![]⟩

class Facts : Prop where
  bcast_S_S18944 : S_.BroadcastsInDim S18944 (![] : Fin 0 → Fin S18944.rank)

variable [Facts]

def fn {F : FTy → Type} [FloatOps F] (main_arg0 : IVec S1x256x3584 16) (main_arg1 : IVec S18944x3584 8) (main_arg2 : IVec S18944 32) (main_arg3 : IVec S18944 32) (main_arg4 : IVec S18944 32) (main_arg5 : IVec S18944 32) : IVec S18944 1 :=
  let main_c : IVec S_ 32 := constantI S_ 32 4294967265#32
  let main_v0 : IVec S18944 32 := broadcastInDim S18944 ![] bcast_S_S18944 main_c
  let main_v1 : IVec S18944 1 := cmpi .sge main_arg5 main_v0
  let main_c_0 : IVec S_ 32 := constantI S_ 32 15#32
  let main_v2 : IVec S18944 32 := broadcastInDim S18944 ![] bcast_S_S18944 main_c_0
  let main_v3 : IVec S18944 1 := cmpi .sle main_arg5 main_v2
  let main_v4 : IVec S18944 1 := andi main_v1 main_v3
  let main_c_1 : IVec S_ 32 := constantI S_ 32 0#32
  let main_v5 : IVec S18944 32 := broadcastInDim S18944 ![] bcast_S_S18944 main_c_1
  let main_v6 : IVec S18944 1 := cmpi .sge main_arg4 main_v5
  let main_v7 : IVec S18944 1 := andi main_v4 main_v6
  let main_c_2 : IVec S_ 32 := constantI S_ 32 4294934532#32
  let main_v8 : IVec S18944 32 := broadcastInDim S18944 ![] bcast_S_S18944 main_c_2
  let main_v9 : IVec S18944 1 := cmpi .sge main_arg3 main_v8
  let main_v10 : IVec S18944 1 := andi main_v7 main_v9
  let main_c_3 : IVec S_ 32 := constantI S_ 32 32763#32
  let main_v11 : IVec S18944 32 := broadcastInDim S18944 ![] bcast_S_S18944 main_c_3
  let main_v12 : IVec S18944 1 := cmpi .sle main_arg3 main_v11
  let main_v13 : IVec S18944 1 := andi main_v10 main_v12
  main_v13
-- ==== Kernel.lean ====
abbrev S1x256x3584 : Shape := ⟨3, ![1, 256, 3584]⟩
abbrev S18944x3584 : Shape := ⟨2, ![18944, 3584]⟩
abbrev S18944 : Shape := ⟨1, ![18944]⟩
abbrev S256x3584 : Shape := ⟨2, ![256, 3584]⟩
abbrev S1x18944 : Shape := ⟨2, ![1, 18944]⟩
abbrev S256x18944 : Shape := ⟨2, ![256, 18944]⟩
abbrev S512x3584 : Shape := ⟨2, ![512, 3584]⟩
abbrev S1x512 : Shape := ⟨2, ![1, 512]⟩
abbrev S256x512 : Shape := ⟨2, ![256, 512]⟩
abbrev S512x1024 : Shape := ⟨2, ![512, 1024]⟩
abbrev S512x512 : Shape := ⟨2, ![512, 512]⟩

abbrev nBuf : Space → Nat
  | .hbm => 13
  | .vmem => 14
  | .smem => 0
  | _ => 0

abbrev bufTy : (tb : Table) → Fin (tcTables nBuf tb) → BufTy
  | .hbm, ⟨0, _⟩ => ⟨S1x256x3584, .i16⟩
  | .hbm, ⟨1, _⟩ => ⟨S18944x3584, .i8⟩
  | .hbm, ⟨2, _⟩ => ⟨S18944, .i32⟩
  | .hbm, ⟨3, _⟩ => ⟨S18944, .i32⟩
  | .hbm, ⟨4, _⟩ => ⟨S18944, .i32⟩
  | .hbm, ⟨5, _⟩ => ⟨S18944, .i32⟩
  | .hbm, ⟨6, _⟩ => ⟨S256x3584, .i16⟩
  | .hbm, ⟨7, _⟩ => ⟨S18944, .i32⟩
  | .hbm, ⟨8, _⟩ => ⟨S1x18944, .i32⟩
  | .hbm, ⟨9, _⟩ => ⟨S1x18944, .i32⟩
  | .hbm, ⟨10, _⟩ => ⟨S1x18944, .i32⟩
  | .hbm, ⟨11, _⟩ => ⟨S1x18944, .i32⟩
  | .hbm, ⟨12, _⟩ => ⟨S256x18944, .i16⟩
  | .local _ .vmem, ⟨0, _⟩ => ⟨S256x3584, .i16⟩
  | .local _ .vmem, ⟨1, _⟩ => ⟨S512x3584, .i8⟩
  | .local _ .vmem, ⟨2, _⟩ => ⟨S512x3584, .i8⟩
  | .local _ .vmem, ⟨3, _⟩ => ⟨S1x512, .i32⟩
  | .local _ .vmem, ⟨4, _⟩ => ⟨S1x512, .i32⟩
  | .local _ .vmem, ⟨5, _⟩ => ⟨S1x512, .i32⟩
  | .local _ .vmem, ⟨6, _⟩ => ⟨S1x512, .i32⟩
  | .local _ .vmem, ⟨7, _⟩ => ⟨S1x512, .i32⟩
  | .local _ .vmem, ⟨8, _⟩ => ⟨S1x512, .i32⟩
  | .local _ .vmem, ⟨9, _⟩ => ⟨S1x512, .i32⟩
  | .local _ .vmem, ⟨10, _⟩ => ⟨S1x512, .i32⟩
  | .local _ .vmem, ⟨11, _⟩ => ⟨S256x512, .i16⟩
  | .local _ .vmem, ⟨12, _⟩ => ⟨S256x512, .i16⟩
  | .local _ .vmem, ⟨13, _⟩ => ⟨S512x3584, .bf16⟩
  | _, _ => ⟨S1x256x3584, .i16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![37], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S256x3584 .i16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x3584 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .i16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S1x256x3584 : Shape := ⟨3, ![1, 256, 3584]⟩
abbrev S18944x3584 : Shape := ⟨2, ![18944, 3584]⟩
abbrev S18944 : Shape := ⟨1, ![18944]⟩
abbrev S256x3584 : Shape := ⟨2, ![256, 3584]⟩
abbrev S_ : Shape := ⟨0, ![]⟩
abbrev S256x1x3584 : Shape := ⟨3, ![256, 1, 3584]⟩
abbrev S1x18944x3584 : Shape := ⟨3, ![1, 18944, 3584]⟩
abbrev S256x18944x3584 : Shape := ⟨3, ![256, 18944, 3584]⟩
abbrev S256x18944 : Shape := ⟨2, ![256, 18944]⟩
abbrev S1x18944 : Shape := ⟨2, ![1, 18944]⟩

abbrev nBuf : Space → Nat
  | .hbm => 687
  | .vmem => 0
  | .smem => 0
  | _ => 0

abbrev hbmTy0_0 (i : Nat) : BufTy := match i % 128 with
  | 0 => ⟨S1x256x3584, .i16⟩
  | 1 => ⟨S18944x3584, .i8⟩
  | 2 => ⟨S18944, .i32⟩
  | 3 => ⟨S18944, .i32⟩
  | 4 => ⟨S18944, .i32⟩
  | 5 => ⟨S18944, .i32⟩
  | 6 => ⟨S256x3584, .i16⟩
  | 7 => ⟨S256x3584, .i32⟩
  | 8 => ⟨S_, .i32⟩
  | 9 => ⟨S256x3584, .i32⟩
  | 10 => ⟨S256x3584, .i32⟩
  | 11 => ⟨S256x3584, .i8⟩
  | 12 => ⟨S_, .i32⟩
  | 13 => ⟨S256x3584, .i32⟩
  | 14 => ⟨S256x3584, .i32⟩
  | 15 => ⟨S_, .i32⟩
  | 16 => ⟨S256x3584, .i32⟩
  | 17 => ⟨S256x3584, .i32⟩
  | 18 => ⟨S256x3584, .i8⟩
  | 19 => ⟨S256x3584, .i32⟩
  | 20 => ⟨S256x1x3584, .i32⟩
  | 21 => ⟨S18944x3584, .i32⟩
  | 22 => ⟨S1x18944x3584, .i32⟩
  | 23 => ⟨S256x18944x3584, .i32⟩
  | 24 => ⟨S256x18944x3584, .i32⟩
  | 25 => ⟨S256x18944x3584, .i32⟩
  | 26 => ⟨S_, .i32⟩
  | 27 => ⟨S256x18944, .i32⟩
  | 28 => ⟨S18944x3584, .i32⟩
  | 29 => ⟨S_, .i32⟩
  | 30 => ⟨S18944, .i32⟩
  | 31 => ⟨S256x3584, .i32⟩
  | 32 => ⟨S256x1x3584, .i32⟩
  | 33 => ⟨S18944x3584, .i32⟩
  | 34 => ⟨S1x18944x3584, .i32⟩
  | 35 => ⟨S256x18944x3584, .i32⟩
  | 36 => ⟨S256x18944x3584, .i32⟩
  | 37 => ⟨S256x18944x3584, .i32⟩
  | 38 => ⟨S_, .i32⟩
  | 39 => ⟨S256x18944, .i32⟩
  | 40 => ⟨S_, .i32⟩
  | 41 => ⟨S18944, .i32⟩
  | 42 => ⟨S18944, .i32⟩
  | 43 => ⟨S1x18944, .i32⟩
  | 44 => ⟨S256x18944, .i32⟩
  | 45 => ⟨S256x18944, .i32⟩
  | 46 => ⟨S_, .i32⟩
  | 47 => ⟨S256x18944, .i32⟩
  | 48 => ⟨S256x18944, .i32⟩
  | 49 => ⟨S_, .i32⟩
  | 50 => ⟨S256x18944, .i32⟩
  | 51 => ⟨S256x18944, .i32⟩
  | 52 => ⟨S_, .i32⟩
  | 53 => ⟨S256x18944, .i32⟩
  | 54 => ⟨S256x18944, .i32⟩
  | 55 => ⟨S_, .i32⟩
  | 56 => ⟨S256x18944, .i32⟩
  | 57 => ⟨S256x18944, .i32⟩
  | 58 => ⟨S_, .i32⟩
  | 59 => ⟨S18944, .i32⟩
  | 60 => ⟨S18944, .i32⟩
  | 61 => ⟨S18944, .i32⟩
  | 62 => ⟨S_, .i32⟩
  | 63 => ⟨S18944, .i32⟩
  | 64 => ⟨S18944, .i32⟩
  | 65 => ⟨S_, .i32⟩
  | 66 => ⟨S18944, .i32⟩
  | 67 => ⟨S18944, .i32⟩
  | 68 => ⟨S18944, .i32⟩
  | 69 => ⟨S_, .i32⟩
  | 70 => ⟨S18944, .i32⟩
  | 71 => ⟨S18944, .i32⟩
  | 72 => ⟨S18944, .i32⟩
  | 73 => ⟨S_, .i32⟩
  | 74 => ⟨S256x18944, .i32⟩
  | 75 => ⟨S256x18944, .i32⟩
  | 76 => ⟨S256x18944, .i32⟩
  | 77 => ⟨S1x18944, .i32⟩
  | 78 => ⟨S256x18944, .i32⟩
  | 79 => ⟨S256x18944, .i32⟩
  | 80 => ⟨S_, .i32⟩
  | 81 => ⟨S256x18944, .i32⟩
  | 82 => ⟨S256x18944, .i32⟩
  | 83 => ⟨S256x18944, .i32⟩
  | 84 => ⟨S1x18944, .i32⟩
  | 85 => ⟨S256x18944, .i32⟩
  | 86 => ⟨S256x18944, .i32⟩
  | 87 => ⟨S_, .i32⟩
  | 88 => ⟨S18944, .i32⟩
  | 89 => ⟨S18944, .i32⟩
  | 90 => ⟨S_, .i32⟩
  | 91 => ⟨S18944, .i32⟩
  | 92 => ⟨S18944, .i32⟩
  | 93 => ⟨S18944, .i32⟩
  | 94 => ⟨S_, .i32⟩
  | 95 => ⟨S18944, .i32⟩
  | 96 => ⟨S18944, .i32⟩
  | 97 => ⟨S_, .i32⟩
  | 98 => ⟨S256x18944, .i32⟩
  | 99 => ⟨S256x18944, .i32⟩
  | 100 => ⟨S_, .i32⟩
  | 101 => ⟨S256x18944, .i32⟩
  | 102 => ⟨S256x18944, .i32⟩
  | 103 => ⟨S256x18944, .i32⟩
  | 104 => ⟨S_, .i32⟩
  | 105 => ⟨S256x18944, .i32⟩
  | 106 => ⟨S256x18944, .i32⟩
  | 107 => ⟨S_, .i32⟩
  | 108 => ⟨S256x18944, .i32⟩
  | 109 => ⟨S256x18944, .i32⟩
  | 110 => ⟨S1x18944, .i32⟩
  | 111 => ⟨S256x18944, .i32⟩
  | 112 => ⟨S256x18944, .i32⟩
  | 113 => ⟨S_, .i32⟩
  | 114 => ⟨S256x18944, .i32⟩
  | 115 => ⟨S256x18944, .i32⟩
  | 116 => ⟨S_, .i32⟩
  | 117 => ⟨S256x18944, .i32⟩
  | 118 => ⟨S256x18944, .i32⟩
  | 119 => ⟨S1x18944, .i32⟩
  | 120 => ⟨S256x18944, .i32⟩
  | 121 => ⟨S256x18944, .i32⟩
  | 122 => ⟨S_, .i32⟩
  | 123 => ⟨S18944, .i32⟩
  | 124 => ⟨S18944, .i32⟩
  | 125 => ⟨S_, .i32⟩
  | 126 => ⟨S18944, .i32⟩
  | 127 => ⟨S18944, .i32⟩
  | _ => ⟨S1x256x3584, .i16⟩

abbrev hbmTy0_1 (i : Nat) : BufTy := match i % 128 with
  | 0 => ⟨S_, .i32⟩
  | 1 => ⟨S_, .i32⟩
  | 2 => ⟨S_, .i32⟩
  | 3 => ⟨S18944, .i32⟩
  | 4 => ⟨S18944, .i32⟩
  | 5 => ⟨S_, .i32⟩
  | 6 => ⟨S18944, .i32⟩
  | 7 => ⟨S18944, .i32⟩
  | 8 => ⟨S18944, .i32⟩
  | 9 => ⟨S_, .i32⟩
  | 10 => ⟨S18944, .i32⟩
  | 11 => ⟨S18944, .i32⟩
  | 12 => ⟨S18944, .i32⟩
  | 13 => ⟨S_, .i32⟩
  | 14 => ⟨S_, .i32⟩
  | 15 => ⟨S_, .i32⟩
  | 16 => ⟨S18944, .i32⟩
  | 17 => ⟨S18944, .i32⟩
  | 18 => ⟨S_, .i32⟩
  | 19 => ⟨S18944, .i32⟩
  | 20 => ⟨S18944, .i32⟩
  | 21 => ⟨S18944, .i32⟩
  | 22 => ⟨S_, .i32⟩
  | 23 => ⟨S18944, .i32⟩
  | 24 => ⟨S18944, .i32⟩
  | 25 => ⟨S_, .i32⟩
  | 26 => ⟨S18944, .i32⟩
  | 27 => ⟨S18944, .i1⟩
  | 28 => ⟨S18944, .i32⟩
  | 29 => ⟨S_, .i32⟩
  | 30 => ⟨S18944, .i32⟩
  | 31 => ⟨S18944, .i32⟩
  | 32 => ⟨S_, .i32⟩
  | 33 => ⟨S_, .i32⟩
  | 34 => ⟨S_, .i32⟩
  | 35 => ⟨S18944, .i32⟩
  | 36 => ⟨S18944, .i32⟩
  | 37 => ⟨S_, .i32⟩
  | 38 => ⟨S18944, .i32⟩
  | 39 => ⟨S18944, .i32⟩
  | 40 => ⟨S18944, .i32⟩
  | 41 => ⟨S_, .i32⟩
  | 42 => ⟨S18944, .i32⟩
  | 43 => ⟨S18944, .i32⟩
  | 44 => ⟨S18944, .i32⟩
  | 45 => ⟨S_, .i32⟩
  | 46 => ⟨S_, .i32⟩
  | 47 => ⟨S_, .i32⟩
  | 48 => ⟨S18944, .i32⟩
  | 49 => ⟨S18944, .i32⟩
  | 50 => ⟨S_, .i32⟩
  | 51 => ⟨S18944, .i32⟩
  | 52 => ⟨S18944, .i32⟩
  | 53 => ⟨S18944, .i32⟩
  | 54 => ⟨S_, .i32⟩
  | 55 => ⟨S18944, .i32⟩
  | 56 => ⟨S18944, .i32⟩
  | 57 => ⟨S_, .i32⟩
  | 58 => ⟨S18944, .i32⟩
  | 59 => ⟨S18944, .i1⟩
  | 60 => ⟨S18944, .i32⟩
  | 61 => ⟨S_, .i32⟩
  | 62 => ⟨S18944, .i32⟩
  | 63 => ⟨S18944, .i32⟩
  | 64 => ⟨S_, .i32⟩
  | 65 => ⟨S_, .i32⟩
  | 66 => ⟨S_, .i32⟩
  | 67 => ⟨S18944, .i32⟩
  | 68 => ⟨S18944, .i32⟩
  | 69 => ⟨S_, .i32⟩
  | 70 => ⟨S18944, .i32⟩
  | 71 => ⟨S18944, .i32⟩
  | 72 => ⟨S18944, .i32⟩
  | 73 => ⟨S_, .i32⟩
  | 74 => ⟨S18944, .i32⟩
  | 75 => ⟨S18944, .i32⟩
  | 76 => ⟨S18944, .i32⟩
  | 77 => ⟨S_, .i32⟩
  | 78 => ⟨S_, .i32⟩
  | 79 => ⟨S_, .i32⟩
  | 80 => ⟨S18944, .i32⟩
  | 81 => ⟨S18944, .i32⟩
  | 82 => ⟨S_, .i32⟩
  | 83 => ⟨S18944, .i32⟩
  | 84 => ⟨S18944, .i32⟩
  | 85 => ⟨S18944, .i32⟩
  | 86 => ⟨S_, .i32⟩
  | 87 => ⟨S18944, .i32⟩
  | 88 => ⟨S18944, .i32⟩
  | 89 => ⟨S_, .i32⟩
  | 90 => ⟨S18944, .i32⟩
  | 91 => ⟨S18944, .i1⟩
  | 92 => ⟨S18944, .i32⟩
  | 93 => ⟨S_, .i32⟩
  | 94 => ⟨S18944, .i32⟩
  | 95 => ⟨S18944, .i32⟩
  | 96 => ⟨S_, .i32⟩
  | 97 => ⟨S_, .i32⟩
  | 98 => ⟨S_, .i32⟩
  | 99 => ⟨S18944, .i32⟩
  | 100 => ⟨S18944, .i32⟩
  | 101 => ⟨S_, .i32⟩
  | 102 => ⟨S18944, .i32⟩
  | 103 => ⟨S18944, .i32⟩
  | 104 => ⟨S18944, .i32⟩
  | 105 => ⟨S_, .i32⟩
  | 106 => ⟨S18944, .i32⟩
  | 107 => ⟨S18944, .i32⟩
  | 108 => ⟨S18944, .i32⟩
  | 109 => ⟨S_, .i32⟩
  | 110 => ⟨S_, .i32⟩
  | 111 => ⟨S_, .i32⟩
  | 112 => ⟨S18944, .i32⟩
  | 113 => ⟨S18944, .i32⟩
  | 114 => ⟨S_, .i32⟩
  | 115 => ⟨S18944, .i32⟩
  | 116 => ⟨S18944, .i32⟩
  | 117 => ⟨S18944, .i32⟩
  | 118 => ⟨S_, .i32⟩
  | 119 => ⟨S18944, .i32⟩
  | 120 => ⟨S18944, .i32⟩
  | 121 => ⟨S_, .i32⟩
  | 122 => ⟨S18944, .i32⟩
  | 123 => ⟨S18944, .i1⟩
  | 124 => ⟨S18944, .i32⟩
  | 125 => ⟨S_, .i32⟩
  | 126 => ⟨S18944, .i32⟩
  | 127 => ⟨S18944, .i32⟩
  | _ => ⟨S1x256x3584, .i16⟩

abbrev hbmTy0_2 (i : Nat) : BufTy := match i % 128 with
  | 0 => ⟨S_, .i32⟩
  | 1 => ⟨S_, .i32⟩
  | 2 => ⟨S_, .i32⟩
  | 3 => ⟨S18944, .i32⟩
  | 4 => ⟨S18944, .i32⟩
  | 5 => ⟨S_, .i32⟩
  | 6 => ⟨S18944, .i32⟩
  | 7 => ⟨S18944, .i32⟩
  | 8 => ⟨S18944, .i32⟩
  | 9 => ⟨S_, .i32⟩
  | 10 => ⟨S18944, .i32⟩
  | 11 => ⟨S18944, .i32⟩
  | 12 => ⟨S18944, .i32⟩
  | 13 => ⟨S_, .i32⟩
  | 14 => ⟨S_, .i32⟩
  | 15 => ⟨S_, .i32⟩
  | 16 => ⟨S18944, .i32⟩
  | 17 => ⟨S18944, .i32⟩
  | 18 => ⟨S_, .i32⟩
  | 19 => ⟨S18944, .i32⟩
  | 20 => ⟨S18944, .i32⟩
  | 21 => ⟨S18944, .i32⟩
  | 22 => ⟨S_, .i32⟩
  | 23 => ⟨S18944, .i32⟩
  | 24 => ⟨S18944, .i32⟩
  | 25 => ⟨S_, .i32⟩
  | 26 => ⟨S18944, .i32⟩
  | 27 => ⟨S18944, .i1⟩
  | 28 => ⟨S18944, .i32⟩
  | 29 => ⟨S_, .i32⟩
  | 30 => ⟨S18944, .i32⟩
  | 31 => ⟨S18944, .i32⟩
  | 32 => ⟨S_, .i32⟩
  | 33 => ⟨S_, .i32⟩
  | 34 => ⟨S_, .i32⟩
  | 35 => ⟨S18944, .i32⟩
  | 36 => ⟨S18944, .i32⟩
  | 37 => ⟨S_, .i32⟩
  | 38 => ⟨S18944, .i32⟩
  | 39 => ⟨S18944, .i32⟩
  | 40 => ⟨S18944, .i32⟩
  | 41 => ⟨S_, .i32⟩
  | 42 => ⟨S18944, .i32⟩
  | 43 => ⟨S18944, .i32⟩
  | 44 => ⟨S18944, .i32⟩
  | 45 => ⟨S_, .i32⟩
  | 46 => ⟨S_, .i32⟩
  | 47 => ⟨S_, .i32⟩
  | 48 => ⟨S18944, .i32⟩
  | 49 => ⟨S18944, .i32⟩
  | 50 => ⟨S_, .i32⟩
  | 51 => ⟨S18944, .i32⟩
  | 52 => ⟨S18944, .i32⟩
  | 53 => ⟨S18944, .i32⟩
  | 54 => ⟨S_, .i32⟩
  | 55 => ⟨S18944, .i32⟩
  | 56 => ⟨S18944, .i32⟩
  | 57 => ⟨S_, .i32⟩
  | 58 => ⟨S18944, .i32⟩
  | 59 => ⟨S18944, .i1⟩
  | 60 => ⟨S18944, .i32⟩
  | 61 => ⟨S1x18944, .i32⟩
  | 62 => ⟨S256x18944, .i32⟩
  | 63 => ⟨S256x18944, .i32⟩
  | 64 => ⟨S_, .i32⟩
  | 65 => ⟨S256x18944, .i32⟩
  | 66 => ⟨S256x18944, .i32⟩
  | 67 => ⟨S_, .i32⟩
  | 68 => ⟨S256x18944, .i32⟩
  | 69 => ⟨S256x18944, .i32⟩
  | 70 => ⟨S1x18944, .i32⟩
  | 71 => ⟨S256x18944, .i32⟩
  | 72 => ⟨S256x18944, .i32⟩
  | 73 => ⟨S_, .i32⟩
  | 74 => ⟨S256x18944, .i32⟩
  | 75 => ⟨S256x18944, .i32⟩
  | 76 => ⟨S_, .i32⟩
  | 77 => ⟨S256x18944, .i32⟩
  | 78 => ⟨S256x18944, .i32⟩
  | 79 => ⟨S1x18944, .i32⟩
  | 80 => ⟨S256x18944, .i32⟩
  | 81 => ⟨S256x18944, .i32⟩
  | 82 => ⟨S_, .i32⟩
  | 83 => ⟨S256x18944, .i32⟩
  | 84 => ⟨S256x18944, .i32⟩
  | 85 => ⟨S_, .i32⟩
  | 86 => ⟨S256x18944, .i32⟩
  | 87 => ⟨S256x18944, .i32⟩
  | 88 => ⟨S1x18944, .i32⟩
  | 89 => ⟨S256x18944, .i32⟩
  | 90 => ⟨S256x18944, .i32⟩
  | 91 => ⟨S_, .i32⟩
  | 92 => ⟨S256x18944, .i32⟩
  | 93 => ⟨S256x18944, .i32⟩
  | 94 => ⟨S_, .i32⟩
  | 95 => ⟨S256x18944, .i32⟩
  | 96 => ⟨S256x18944, .i32⟩
  | 97 => ⟨S1x18944, .i32⟩
  | 98 => ⟨S256x18944, .i32⟩
  | 99 => ⟨S256x18944, .i32⟩
  | 100 => ⟨S_, .i32⟩
  | 101 => ⟨S256x18944, .i32⟩
  | 102 => ⟨S256x18944, .i32⟩
  | 103 => ⟨S_, .i32⟩
  | 104 => ⟨S256x18944, .i32⟩
  | 105 => ⟨S256x18944, .i32⟩
  | 106 => ⟨S1x18944, .i32⟩
  | 107 => ⟨S256x18944, .i32⟩
  | 108 => ⟨S256x18944, .i32⟩
  | 109 => ⟨S_, .i32⟩
  | 110 => ⟨S256x18944, .i32⟩
  | 111 => ⟨S256x18944, .i32⟩
  | 112 => ⟨S_, .i32⟩
  | 113 => ⟨S256x18944, .i32⟩
  | 114 => ⟨S256x18944, .i32⟩
  | 115 => ⟨S1x18944, .i32⟩
  | 116 => ⟨S256x18944, .i32⟩
  | 117 => ⟨S256x18944, .i32⟩
  | 118 => ⟨S_, .i32⟩
  | 119 => ⟨S256x18944, .i32⟩
  | 120 => ⟨S256x18944, .i32⟩
  | 121 => ⟨S_, .i32⟩
  | 122 => ⟨S256x18944, .i32⟩
  | 123 => ⟨S256x18944, .i32⟩
  | 124 => ⟨S1x18944, .i32⟩
  | 125 => ⟨S256x18944, .i32⟩
  | 126 => ⟨S256x18944, .i32⟩
  | 127 => ⟨S_, .i32⟩
  | _ => ⟨S1x256x3584, .i16⟩

abbrev hbmTy0_3 (i : Nat) : BufTy := match i % 128 with
  | 0 => ⟨S256x18944, .i32⟩
  | 1 => ⟨S256x18944, .i32⟩
  | 2 => ⟨S_, .i32⟩
  | 3 => ⟨S256x18944, .i32⟩
  | 4 => ⟨S256x18944, .i32⟩
  | 5 => ⟨S1x18944, .i32⟩
  | 6 => ⟨S256x18944, .i32⟩
  | 7 => ⟨S256x18944, .i32⟩
  | 8 => ⟨S_, .i32⟩
  | 9 => ⟨S256x18944, .i32⟩
  | 10 => ⟨S256x18944, .i32⟩
  | 11 => ⟨S_, .i32⟩
  | 12 => ⟨S256x18944, .i32⟩
  | 13 => ⟨S256x18944, .i32⟩
  | 14 => ⟨S1x18944, .i32⟩
  | 15 => ⟨S256x18944, .i32⟩
  | 16 => ⟨S256x18944, .i32⟩
  | 17 => ⟨S_, .i32⟩
  | 18 => ⟨S256x18944, .i32⟩
  | 19 => ⟨S256x18944, .i32⟩
  | 20 => ⟨S_, .i32⟩
  | 21 => ⟨S256x18944, .i32⟩
  | 22 => ⟨S256x18944, .i32⟩
  | 23 => ⟨S1x18944, .i32⟩
  | 24 => ⟨S256x18944, .i32⟩
  | 25 => ⟨S256x18944, .i32⟩
  | 26 => ⟨S_, .i32⟩
  | 27 => ⟨S256x18944, .i32⟩
  | 28 => ⟨S256x18944, .i32⟩
  | 29 => ⟨S_, .i32⟩
  | 30 => ⟨S256x18944, .i32⟩
  | 31 => ⟨S256x18944, .i32⟩
  | 32 => ⟨S1x18944, .i32⟩
  | 33 => ⟨S256x18944, .i32⟩
  | 34 => ⟨S256x18944, .i32⟩
  | 35 => ⟨S_, .i32⟩
  | 36 => ⟨S256x18944, .i32⟩
  | 37 => ⟨S256x18944, .i32⟩
  | 38 => ⟨S_, .i32⟩
  | 39 => ⟨S256x18944, .i32⟩
  | 40 => ⟨S256x18944, .i32⟩
  | 41 => ⟨S1x18944, .i32⟩
  | 42 => ⟨S256x18944, .i32⟩
  | 43 => ⟨S256x18944, .i32⟩
  | 44 => ⟨S_, .i32⟩
  | 45 => ⟨S256x18944, .i32⟩
  | 46 => ⟨S256x18944, .i32⟩
  | 47 => ⟨S_, .i32⟩
  | 48 => ⟨S256x18944, .i32⟩
  | 49 => ⟨S256x18944, .i32⟩
  | 50 => ⟨S1x18944, .i32⟩
  | 51 => ⟨S256x18944, .i32⟩
  | 52 => ⟨S256x18944, .i32⟩
  | 53 => ⟨S_, .i32⟩
  | 54 => ⟨S256x18944, .i32⟩
  | 55 => ⟨S256x18944, .i32⟩
  | 56 => ⟨S_, .i32⟩
  | 57 => ⟨S256x18944, .i32⟩
  | 58 => ⟨S256x18944, .i32⟩
  | 59 => ⟨S1x18944, .i32⟩
  | 60 => ⟨S256x18944, .i32⟩
  | 61 => ⟨S256x18944, .i32⟩
  | 62 => ⟨S_, .i32⟩
  | 63 => ⟨S256x18944, .i32⟩
  | 64 => ⟨S256x18944, .i32⟩
  | 65 => ⟨S_, .i32⟩
  | 66 => ⟨S256x18944, .i32⟩
  | 67 => ⟨S256x18944, .i32⟩
  | 68 => ⟨S1x18944, .i32⟩
  | 69 => ⟨S256x18944, .i32⟩
  | 70 => ⟨S256x18944, .i32⟩
  | 71 => ⟨S_, .i32⟩
  | 72 => ⟨S256x18944, .i32⟩
  | 73 => ⟨S256x18944, .i32⟩
  | 74 => ⟨S_, .i32⟩
  | 75 => ⟨S256x18944, .i32⟩
  | 76 => ⟨S256x18944, .i32⟩
  | 77 => ⟨S1x18944, .i32⟩
  | 78 => ⟨S256x18944, .i32⟩
  | 79 => ⟨S256x18944, .i32⟩
  | 80 => ⟨S_, .i32⟩
  | 81 => ⟨S256x18944, .i32⟩
  | 82 => ⟨S256x18944, .i32⟩
  | 83 => ⟨S_, .i32⟩
  | 84 => ⟨S256x18944, .i32⟩
  | 85 => ⟨S256x18944, .i32⟩
  | 86 => ⟨S1x18944, .i32⟩
  | 87 => ⟨S256x18944, .i32⟩
  | 88 => ⟨S256x18944, .i32⟩
  | 89 => ⟨S_, .i32⟩
  | 90 => ⟨S256x18944, .i32⟩
  | 91 => ⟨S256x18944, .i32⟩
  | 92 => ⟨S_, .i32⟩
  | 93 => ⟨S256x18944, .i32⟩
  | 94 => ⟨S256x18944, .i32⟩
  | 95 => ⟨S1x18944, .i32⟩
  | 96 => ⟨S256x18944, .i32⟩
  | 97 => ⟨S256x18944, .i32⟩
  | 98 => ⟨S_, .i32⟩
  | 99 => ⟨S256x18944, .i32⟩
  | 100 => ⟨S256x18944, .i32⟩
  | 101 => ⟨S_, .i32⟩
  | 102 => ⟨S256x18944, .i32⟩
  | 103 => ⟨S256x18944, .i32⟩
  | 104 => ⟨S1x18944, .i32⟩
  | 105 => ⟨S256x18944, .i32⟩
  | 106 => ⟨S256x18944, .i32⟩
  | 107 => ⟨S_, .i32⟩
  | 108 => ⟨S256x18944, .i32⟩
  | 109 => ⟨S256x18944, .i32⟩
  | 110 => ⟨S_, .i32⟩
  | 111 => ⟨S256x18944, .i32⟩
  | 112 => ⟨S256x18944, .i32⟩
  | 113 => ⟨S1x18944, .i32⟩
  | 114 => ⟨S256x18944, .i32⟩
  | 115 => ⟨S256x18944, .i32⟩
  | 116 => ⟨S_, .i32⟩
  | 117 => ⟨S256x18944, .i32⟩
  | 118 => ⟨S256x18944, .i32⟩
  | 119 => ⟨S_, .i32⟩
  | 120 => ⟨S256x18944, .i32⟩
  | 121 => ⟨S256x18944, .i32⟩
  | 122 => ⟨S1x18944, .i32⟩
  | 123 => ⟨S256x18944, .i32⟩
  | 124 => ⟨S256x18944, .i32⟩
  | 125 => ⟨S_, .i32⟩
  | 126 => ⟨S256x18944, .i32⟩
  | 127 => ⟨S256x18944, .i32⟩
  | _ => ⟨S1x256x3584, .i16⟩

abbrev hbmTy0_4 (i : Nat) : BufTy := match i % 128 with
  | 0 => ⟨S_, .i32⟩
  | 1 => ⟨S256x18944, .i32⟩
  | 2 => ⟨S256x18944, .i32⟩
  | 3 => ⟨S1x18944, .i32⟩
  | 4 => ⟨S256x18944, .i32⟩
  | 5 => ⟨S256x18944, .i32⟩
  | 6 => ⟨S_, .i32⟩
  | 7 => ⟨S256x18944, .i32⟩
  | 8 => ⟨S256x18944, .i32⟩
  | 9 => ⟨S_, .i32⟩
  | 10 => ⟨S256x18944, .i32⟩
  | 11 => ⟨S256x18944, .i32⟩
  | 12 => ⟨S1x18944, .i32⟩
  | 13 => ⟨S256x18944, .i32⟩
  | 14 => ⟨S256x18944, .i32⟩
  | 15 => ⟨S_, .i32⟩
  | 16 => ⟨S256x18944, .i32⟩
  | 17 => ⟨S256x18944, .i32⟩
  | 18 => ⟨S_, .i32⟩
  | 19 => ⟨S256x18944, .i32⟩
  | 20 => ⟨S256x18944, .i32⟩
  | 21 => ⟨S256x18944, .i32⟩
  | 22 => ⟨S256x18944, .i32⟩
  | 23 => ⟨S256x18944, .i32⟩
  | 24 => ⟨S256x18944, .i32⟩
  | 25 => ⟨S256x18944, .i32⟩
  | 26 => ⟨S256x18944, .i32⟩
  | 27 => ⟨S256x18944, .i32⟩
  | 28 => ⟨S256x18944, .i32⟩
  | 29 => ⟨S256x18944, .i32⟩
  | 30 => ⟨S256x18944, .i32⟩
  | 31 => ⟨S256x18944, .i32⟩
  | 32 => ⟨S256x18944, .i32⟩
  | 33 => ⟨S256x18944, .i32⟩
  | 34 => ⟨S256x18944, .i32⟩
  | 35 => ⟨S256x18944, .i32⟩
  | 36 => ⟨S256x18944, .i32⟩
  | 37 => ⟨S256x18944, .i32⟩
  | 38 => ⟨S256x18944, .i32⟩
  | 39 => ⟨S256x18944, .i32⟩
  | 40 => ⟨S_, .i32⟩
  | 41 => ⟨S256x18944, .i32⟩
  | 42 => ⟨S256x18944, .i32⟩
  | 43 => ⟨S256x18944, .i32⟩
  | 44 => ⟨S256x18944, .i32⟩
  | 45 => ⟨S256x18944, .i32⟩
  | 46 => ⟨S256x18944, .i32⟩
  | 47 => ⟨S256x18944, .i32⟩
  | 48 => ⟨S256x18944, .i32⟩
  | 49 => ⟨S256x18944, .i32⟩
  | 50 => ⟨S256x18944, .i32⟩
  | 51 => ⟨S256x18944, .i32⟩
  | 52 => ⟨S256x18944, .i32⟩
  | 53 => ⟨S256x18944, .i32⟩
  | 54 => ⟨S256x18944, .i32⟩
  | 55 => ⟨S256x18944, .i32⟩
  | 56 => ⟨S256x18944, .i32⟩
  | 57 => ⟨S256x18944, .i32⟩
  | 58 => ⟨S256x18944, .i32⟩
  | 59 => ⟨S256x18944, .i32⟩
  | 60 => ⟨S256x18944, .i32⟩
  | 61 => ⟨S256x18944, .i32⟩
  | 62 => ⟨S_, .i32⟩
  | 63 => ⟨S256x18944, .i32⟩
  | 64 => ⟨S256x18944, .i32⟩
  | 65 => ⟨S_, .i32⟩
  | 66 => ⟨S256x18944, .i32⟩
  | 67 => ⟨S256x18944, .i32⟩
  | 68 => ⟨S256x18944, .i32⟩
  | 69 => ⟨S_, .i32⟩
  | 70 => ⟨S256x18944, .i32⟩
  | 71 => ⟨S256x18944, .i32⟩
  | 72 => ⟨S_, .i32⟩
  | 73 => ⟨S256x18944, .i32⟩
  | 74 => ⟨S256x18944, .i32⟩
  | 75 => ⟨S256x18944, .i32⟩
  | 76 => ⟨S_, .i32⟩
  | 77 => ⟨S256x18944, .i32⟩
  | 78 => ⟨S256x18944, .i32⟩
  | 79 => ⟨S_, .i32⟩
  | 80 => ⟨S256x18944, .i32⟩
  | 81 => ⟨S256x18944, .i32⟩
  | 82 => ⟨S256x18944, .i32⟩
  | 83 => ⟨S_, .i32⟩
  | 84 => ⟨S256x18944, .i32⟩
  | 85 => ⟨S256x18944, .i32⟩
  | 86 => ⟨S_, .i32⟩
  | 87 => ⟨S256x18944, .i32⟩
  | 88 => ⟨S256x18944, .i32⟩
  | 89 => ⟨S256x18944, .i32⟩
  | 90 => ⟨S_, .i32⟩
  | 91 => ⟨S256x18944, .i32⟩
  | 92 => ⟨S256x18944, .i32⟩
  | 93 => ⟨S_, .i32⟩
  | 94 => ⟨S256x18944, .i32⟩
  | 95 => ⟨S256x18944, .i32⟩
  | 96 => ⟨S256x18944, .i32⟩
  | 97 => ⟨S_, .i32⟩
  | 98 => ⟨S256x18944, .i32⟩
  | 99 => ⟨S256x18944, .i32⟩
  | 100 => ⟨S_, .i32⟩
  | 101 => ⟨S256x18944, .i32⟩
  | 102 => ⟨S256x18944, .i32⟩
  | 103 => ⟨S256x18944, .i32⟩
  | 104 => ⟨S_, .i32⟩
  | 105 => ⟨S256x18944, .i32⟩
  | 106 => ⟨S256x18944, .i32⟩
  | 107 => ⟨S_, .i32⟩
  | 108 => ⟨S256x18944, .i32⟩
  | 109 => ⟨S256x18944, .i32⟩
  | 110 => ⟨S256x18944, .i32⟩
  | 111 => ⟨S_, .i32⟩
  | 112 => ⟨S256x18944, .i32⟩
  | 113 => ⟨S256x18944, .i32⟩
  | 114 => ⟨S_, .i32⟩
  | 115 => ⟨S256x18944, .i32⟩
  | 116 => ⟨S256x18944, .i32⟩
  | 117 => ⟨S256x18944, .i32⟩
  | 118 => ⟨S_, .i32⟩
  | 119 => ⟨S256x18944, .i32⟩
  | 120 => ⟨S256x18944, .i32⟩
  | 121 => ⟨S_, .i32⟩
  | 122 => ⟨S256x18944, .i32⟩
  | 123 => ⟨S256x18944, .i32⟩
  | 124 => ⟨S256x18944, .i32⟩
  | 125 => ⟨S_, .i32⟩
  | 126 => ⟨S256x18944, .i32⟩
  | 127 => ⟨S256x18944, .i32⟩
  | _ => ⟨S1x256x3584, .i16⟩

abbrev hbmTy0_5 (i : Nat) : BufTy := match i % 128 with
  | 0 => ⟨S256x18944, .i32⟩
  | 1 => ⟨S_, .i32⟩
  | 2 => ⟨S256x18944, .i32⟩
  | 3 => ⟨S256x18944, .i1⟩
  | 4 => ⟨S_, .i32⟩
  | 5 => ⟨S256x18944, .i32⟩
  | 6 => ⟨S256x18944, .i1⟩
  | 7 => ⟨S256x18944, .i1⟩
  | 8 => ⟨S_, .i32⟩
  | 9 => ⟨S256x18944, .i32⟩
  | 10 => ⟨S256x18944, .i1⟩
  | 11 => ⟨S256x18944, .i1⟩
  | 12 => ⟨S_, .i32⟩
  | 13 => ⟨S256x18944, .i32⟩
  | 14 => ⟨S256x18944, .i1⟩
  | 15 => ⟨S_, .i32⟩
  | 16 => ⟨S256x18944, .i32⟩
  | 17 => ⟨S256x18944, .i1⟩
  | 18 => ⟨S256x18944, .i1⟩
  | 19 => ⟨S_, .i32⟩
  | 20 => ⟨S256x18944, .i32⟩
  | 21 => ⟨S256x18944, .i1⟩
  | 22 => ⟨S256x18944, .i1⟩
  | 23 => ⟨S_, .i32⟩
  | 24 => ⟨S256x18944, .i32⟩
  | 25 => ⟨S256x18944, .i32⟩
  | 26 => ⟨S256x18944, .i32⟩
  | 27 => ⟨S256x18944, .i1⟩
  | 28 => ⟨S_, .i32⟩
  | 29 => ⟨S_, .i32⟩
  | 30 => ⟨S_, .i32⟩
  | 31 => ⟨S256x18944, .i32⟩
  | 32 => ⟨S256x18944, .i32⟩
  | 33 => ⟨S_, .i32⟩
  | 34 => ⟨S256x18944, .i32⟩
  | 35 => ⟨S256x18944, .i32⟩
  | 36 => ⟨S_, .i32⟩
  | 37 => ⟨S256x18944, .i32⟩
  | 38 => ⟨S256x18944, .i1⟩
  | 39 => ⟨S_, .i32⟩
  | 40 => ⟨S_, .i32⟩
  | 41 => ⟨S256x18944, .i32⟩
  | 42 => ⟨S256x18944, .i32⟩
  | 43 => ⟨S256x18944, .i32⟩
  | 44 => ⟨S256x18944, .i32⟩
  | 45 => ⟨S256x18944, .i32⟩
  | 46 => ⟨S256x18944, .i16⟩
  | _ => ⟨S1x256x3584, .i16⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S1x256x3584, .i16⟩

abbrev bufTy : (tb : Table) → Fin (tcTables nBuf tb) → BufTy
  | .hbm, ⟨i, _⟩ => hbmTy i
  | _, _ => ⟨S1x256x3584, .i16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c_2 : Ref sig .tc := ⟨.hbm, 26, rfl⟩
abbrev main_v17 : Ref sig .tc := ⟨.hbm, 27, rfl⟩
abbrev main_v18 : Ref sig .tc := ⟨.hbm, 28, rfl⟩
abbrev main_c_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_c_4 : Ref sig .tc := ⟨.hbm, 38, rfl⟩
abbrev main_v27 : Ref sig .tc := ⟨.hbm, 39, rfl⟩
abbrev main_c_5 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_c_6 : Ref sig .tc := ⟨.hbm, 46, rfl⟩
abbrev main_v33 : Ref sig .tc := ⟨.hbm, 47, rfl⟩
abbrev main_v34 : Ref sig .tc := ⟨.hbm, 48, rfl⟩
abbrev main_c_7 : Ref sig .tc := ⟨.hbm, 49, rfl⟩
abbrev main_v35 : Ref sig .tc := ⟨.hbm, 50, rfl⟩
abbrev main_v36 : Ref sig .tc := ⟨.hbm, 51, rfl⟩
abbrev main_c_8 : Ref sig .tc := ⟨.hbm, 52, rfl⟩
abbrev main_v37 : Ref sig .tc := ⟨.hbm, 53, rfl⟩
abbrev main_v38 : Ref sig .tc := ⟨.hbm, 54, rfl⟩
abbrev main_c_9 : Ref sig .tc := ⟨.hbm, 55, rfl⟩
abbrev main_v39 : Ref sig .tc := ⟨.hbm, 56, rfl⟩
abbrev main_v40 : Ref sig .tc := ⟨.hbm, 57, rfl⟩
abbrev main_c_10 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_c_11 : Ref sig .tc := ⟨.hbm, 62, rfl⟩
abbrev main_v44 : Ref sig .tc := ⟨.hbm, 63, rfl⟩
abbrev main_v45 : Ref sig .tc := ⟨.hbm, 64, rfl⟩
abbrev main_c_12 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_c_13 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_c_14 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_c_15 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_c_16 : Ref sig .tc := ⟨.hbm, 87, rfl⟩
abbrev main_v64 : Ref sig .tc := ⟨.hbm, 88, rfl⟩
abbrev main_v65 : Ref sig .tc := ⟨.hbm, 89, rfl⟩
abbrev main_c_17 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_c_18 : Ref sig .tc := ⟨.hbm, 94, rfl⟩
abbrev main_v69 : Ref sig .tc := ⟨.hbm, 95, rfl⟩
abbrev main_v70 : Ref sig .tc := ⟨.hbm, 96, rfl⟩
abbrev main_c_19 : Ref sig .tc := ⟨.hbm, 97, rfl⟩
abbrev main_v71 : Ref sig .tc := ⟨.hbm, 98, rfl⟩
abbrev main_v72 : Ref sig .tc := ⟨.hbm, 99, rfl⟩
abbrev main_c_20 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_c_21 : Ref sig .tc := ⟨.hbm, 104, rfl⟩
abbrev main_v76 : Ref sig .tc := ⟨.hbm, 105, rfl⟩
abbrev main_v77 : Ref sig .tc := ⟨.hbm, 106, rfl⟩
abbrev main_c_22 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_c_23 : Ref sig .tc := ⟨.hbm, 113, rfl⟩
abbrev main_v83 : Ref sig .tc := ⟨.hbm, 114, rfl⟩
abbrev main_v84 : Ref sig .tc := ⟨.hbm, 115, rfl⟩
abbrev main_c_24 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_c_25 : Ref sig .tc := ⟨.hbm, 122, rfl⟩
abbrev main_v90 : Ref sig .tc := ⟨.hbm, 123, rfl⟩
abbrev main_v91 : Ref sig .tc := ⟨.hbm, 124, rfl⟩
abbrev main_c_26 : Ref sig .tc := ⟨.hbm, 125, rfl⟩
abbrev main_v92 : Ref sig .tc := ⟨.hbm, 126, rfl⟩
abbrev main_v93 : Ref sig .tc := ⟨.hbm, 127, rfl⟩
abbrev main_c_27 : Ref sig .tc := ⟨.hbm, 128, rfl⟩
abbrev main_c_28 : Ref sig .tc := ⟨.hbm, 129, rfl⟩
abbrev main_call0_v0 : Ref sig .tc := ⟨.hbm, 130, rfl⟩
abbrev main_call0_v1 : Ref sig .tc := ⟨.hbm, 131, rfl⟩
abbrev main_call0_v2 : Ref sig .tc := ⟨.hbm, 132, rfl⟩
abbrev main_call0_v3 : Ref sig .tc := ⟨.hbm, 133, rfl⟩
abbrev main_call0_v4 : Ref sig .tc := ⟨.hbm, 134, rfl⟩
abbrev main_v94 : Ref sig .tc := ⟨.hbm, 135, rfl⟩
abbrev main_v95 : Ref sig .tc := ⟨.hbm, 136, rfl⟩
abbrev main_c_29 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_c_30 : Ref sig .tc := ⟨.hbm, 141, rfl⟩
abbrev main_c_31 : Ref sig .tc := ⟨.hbm, 142, rfl⟩
abbrev main_call1_v0 : Ref sig .tc := ⟨.hbm, 143, rfl⟩
abbrev main_call1_v1 : Ref sig .tc := ⟨.hbm, 144, rfl⟩
abbrev main_call1_v2 : Ref sig .tc := ⟨.hbm, 145, rfl⟩
abbrev main_call1_v3 : Ref sig .tc := ⟨.hbm, 146, rfl⟩
abbrev main_call1_v4 : Ref sig .tc := ⟨.hbm, 147, rfl⟩
abbrev main_v99 : Ref sig .tc := ⟨.hbm, 148, rfl⟩
abbrev main_v100 : Ref sig .tc := ⟨.hbm, 149, rfl⟩
abbrev main_c_32 : Ref sig .tc := ⟨.hbm, 150, rfl⟩
abbrev main_v101 : Ref sig .tc := ⟨.hbm, 151, rfl⟩
abbrev main_v102 : Ref sig .tc := ⟨.hbm, 152, rfl⟩
abbrev main_c_33 : Ref sig .tc := ⟨.hbm, 153, rfl⟩
abbrev main_v103 : Ref sig .tc := ⟨.hbm, 154, rfl⟩
abbrev main_v104 : Ref sig .tc := ⟨.hbm, 155, rfl⟩
abbrev main_v105 : Ref sig .tc := ⟨.hbm, 156, rfl⟩
abbrev main_c_34 : Ref sig .tc := ⟨.hbm, 157, rfl⟩
abbrev main_v106 : Ref sig .tc := ⟨.hbm, 158, rfl⟩
abbrev main_v107 : Ref sig .tc := ⟨.hbm, 159, rfl⟩
abbrev main_c_35 : Ref sig .tc := ⟨.hbm, 160, rfl⟩
abbrev main_c_36 : Ref sig .tc := ⟨.hbm, 161, rfl⟩
abbrev main_call3_v0 : Ref sig .tc := ⟨.hbm, 162, rfl⟩
abbrev main_call3_v1 : Ref sig .tc := ⟨.hbm, 163, rfl⟩
abbrev main_call3_v2 : Ref sig .tc := ⟨.hbm, 164, rfl⟩
abbrev main_call3_v3 : Ref sig .tc := ⟨.hbm, 165, rfl⟩
abbrev main_call3_v4 : Ref sig .tc := ⟨.hbm, 166, rfl⟩
abbrev main_v108 : Ref sig .tc := ⟨.hbm, 167, rfl⟩
abbrev main_v109 : Ref sig .tc := ⟨.hbm, 168, rfl⟩
abbrev main_c_37 : Ref sig .tc := ⟨.hbm, 169, rfl⟩
abbrev main_v110 : Ref sig .tc := ⟨.hbm, 170, rfl⟩
abbrev main_v111 : Ref sig .tc := ⟨.hbm, 171, rfl⟩
abbrev main_v112 : Ref sig .tc := ⟨.hbm, 172, rfl⟩
abbrev main_c_38 : Ref sig .tc := ⟨.hbm, 173, rfl⟩
abbrev main_c_39 : Ref sig .tc := ⟨.hbm, 174, rfl⟩
abbrev main_call4_v0 : Ref sig .tc := ⟨.hbm, 175, rfl⟩
abbrev main_call4_v1 : Ref sig .tc := ⟨.hbm, 176, rfl⟩
abbrev main_call4_v2 : Ref sig .tc := ⟨.hbm, 177, rfl⟩
abbrev main_call4_v3 : Ref sig .tc := ⟨.hbm, 178, rfl⟩
abbrev main_call4_v4 : Ref sig .tc := ⟨.hbm, 179, rfl⟩
abbrev main_v113 : Ref sig .tc := ⟨.hbm, 180, rfl⟩
abbrev main_v114 : Ref sig .tc := ⟨.hbm, 181, rfl⟩
abbrev main_c_40 : Ref sig .tc := ⟨.hbm, 182, rfl⟩
abbrev main_v115 : Ref sig .tc := ⟨.hbm, 183, rfl⟩
abbrev main_v116 : Ref sig .tc := ⟨.hbm, 184, rfl⟩
abbrev main_c_41 : Ref sig .tc := ⟨.hbm, 185, rfl⟩
abbrev main_v117 : Ref sig .tc := ⟨.hbm, 186, rfl⟩
abbrev main_v118 : Ref sig .tc := ⟨.hbm, 187, rfl⟩
abbrev main_v119 : Ref sig .tc := ⟨.hbm, 188, rfl⟩
abbrev main_c_42 : Ref sig .tc := ⟨.hbm, 189, rfl⟩
abbrev main_v120 : Ref sig .tc := ⟨.hbm, 190, rfl⟩
abbrev main_v121 : Ref sig .tc := ⟨.hbm, 191, rfl⟩
abbrev main_c_43 : Ref sig .tc := ⟨.hbm, 192, rfl⟩
abbrev main_c_44 : Ref sig .tc := ⟨.hbm, 193, rfl⟩
abbrev main_call6_v0 : Ref sig .tc := ⟨.hbm, 194, rfl⟩
abbrev main_call6_v1 : Ref sig .tc := ⟨.hbm, 195, rfl⟩
abbrev main_call6_v2 : Ref sig .tc := ⟨.hbm, 196, rfl⟩
abbrev main_call6_v3 : Ref sig .tc := ⟨.hbm, 197, rfl⟩
abbrev main_call6_v4 : Ref sig .tc := ⟨.hbm, 198, rfl⟩
abbrev main_v122 : Ref sig .tc := ⟨.hbm, 199, rfl⟩
abbrev main_v123 : Ref sig .tc := ⟨.hbm, 200, rfl⟩
abbrev main_c_45 : Ref sig .tc := ⟨.hbm, 201, rfl⟩
abbrev main_v124 : Ref sig .tc := ⟨.hbm, 202, rfl⟩
abbrev main_v125 : Ref sig .tc := ⟨.hbm, 203, rfl⟩
abbrev main_v126 : Ref sig .tc := ⟨.hbm, 204, rfl⟩
abbrev main_c_46 : Ref sig .tc := ⟨.hbm, 205, rfl⟩
abbrev main_c_47 : Ref sig .tc := ⟨.hbm, 206, rfl⟩
abbrev main_call7_v0 : Ref sig .tc := ⟨.hbm, 207, rfl⟩
abbrev main_call7_v1 : Ref sig .tc := ⟨.hbm, 208, rfl⟩
abbrev main_call7_v2 : Ref sig .tc := ⟨.hbm, 209, rfl⟩
abbrev main_call7_v3 : Ref sig .tc := ⟨.hbm, 210, rfl⟩
abbrev main_call7_v4 : Ref sig .tc := ⟨.hbm, 211, rfl⟩
abbrev main_v127 : Ref sig .tc := ⟨.hbm, 212, rfl⟩
abbrev main_v128 : Ref sig .tc := ⟨.hbm, 213, rfl⟩
abbrev main_c_48 : Ref sig .tc := ⟨.hbm, 214, rfl⟩
abbrev main_v129 : Ref sig .tc := ⟨.hbm, 215, rfl⟩
abbrev main_v130 : Ref sig .tc := ⟨.hbm, 216, rfl⟩
abbrev main_c_49 : Ref sig .tc := ⟨.hbm, 217, rfl⟩
abbrev main_v131 : Ref sig .tc := ⟨.hbm, 218, rfl⟩
abbrev main_v132 : Ref sig .tc := ⟨.hbm, 219, rfl⟩
abbrev main_v133 : Ref sig .tc := ⟨.hbm, 220, rfl⟩
abbrev main_c_50 : Ref sig .tc := ⟨.hbm, 221, rfl⟩
abbrev main_v134 : Ref sig .tc := ⟨.hbm, 222, rfl⟩
abbrev main_v135 : Ref sig .tc := ⟨.hbm, 223, rfl⟩
abbrev main_c_51 : Ref sig .tc := ⟨.hbm, 224, rfl⟩
abbrev main_c_52 : Ref sig .tc := ⟨.hbm, 225, rfl⟩
abbrev main_call9_v0 : Ref sig .tc := ⟨.hbm, 226, rfl⟩
abbrev main_call9_v1 : Ref sig .tc := ⟨.hbm, 227, rfl⟩
abbrev main_call9_v2 : Ref sig .tc := ⟨.hbm, 228, rfl⟩
abbrev main_call9_v3 : Ref sig .tc := ⟨.hbm, 229, rfl⟩
abbrev main_call9_v4 : Ref sig .tc := ⟨.hbm, 230, rfl⟩
abbrev main_v136 : Ref sig .tc := ⟨.hbm, 231, rfl⟩
abbrev main_v137 : Ref sig .tc := ⟨.hbm, 232, rfl⟩
abbrev main_c_53 : Ref sig .tc := ⟨.hbm, 233, rfl⟩
abbrev main_v138 : Ref sig .tc := ⟨.hbm, 234, rfl⟩
abbrev main_v139 : Ref sig .tc := ⟨.hbm, 235, rfl⟩
abbrev main_v140 : Ref sig .tc := ⟨.hbm, 236, rfl⟩
abbrev main_c_54 : Ref sig .tc := ⟨.hbm, 237, rfl⟩
abbrev main_c_55 : Ref sig .tc := ⟨.hbm, 238, rfl⟩
abbrev main_call10_v0 : Ref sig .tc := ⟨.hbm, 239, rfl⟩
abbrev main_call10_v1 : Ref sig .tc := ⟨.hbm, 240, rfl⟩
abbrev main_call10_v2 : Ref sig .tc := ⟨.hbm, 241, rfl⟩
abbrev main_call10_v3 : Ref sig .tc := ⟨.hbm, 242, rfl⟩
abbrev main_call10_v4 : Ref sig .tc := ⟨.hbm, 243, rfl⟩
abbrev main_v141 : Ref sig .tc := ⟨.hbm, 244, rfl⟩
abbrev main_v142 : Ref sig .tc := ⟨.hbm, 245, rfl⟩
abbrev main_c_56 : Ref sig .tc := ⟨.hbm, 246, rfl⟩
abbrev main_v143 : Ref sig .tc := ⟨.hbm, 247, rfl⟩
abbrev main_v144 : Ref sig .tc := ⟨.hbm, 248, rfl⟩
abbrev main_c_57 : Ref sig .tc := ⟨.hbm, 249, rfl⟩
abbrev main_v145 : Ref sig .tc := ⟨.hbm, 250, rfl⟩
abbrev main_v146 : Ref sig .tc := ⟨.hbm, 251, rfl⟩
abbrev main_v147 : Ref sig .tc := ⟨.hbm, 252, rfl⟩
abbrev main_c_58 : Ref sig .tc := ⟨.hbm, 253, rfl⟩
abbrev main_v148 : Ref sig .tc := ⟨.hbm, 254, rfl⟩
abbrev main_v149 : Ref sig .tc := ⟨.hbm, 255, rfl⟩
abbrev main_c_59 : Ref sig .tc := ⟨.hbm, 256, rfl⟩
abbrev main_c_60 : Ref sig .tc := ⟨.hbm, 257, rfl⟩
abbrev main_call12_v0 : Ref sig .tc := ⟨.hbm, 258, rfl⟩
abbrev main_call12_v1 : Ref sig .tc := ⟨.hbm, 259, rfl⟩
abbrev main_call12_v2 : Ref sig .tc := ⟨.hbm, 260, rfl⟩
abbrev main_call12_v3 : Ref sig .tc := ⟨.hbm, 261, rfl⟩
abbrev main_call12_v4 : Ref sig .tc := ⟨.hbm, 262, rfl⟩
abbrev main_v150 : Ref sig .tc := ⟨.hbm, 263, rfl⟩
abbrev main_v151 : Ref sig .tc := ⟨.hbm, 264, rfl⟩
abbrev main_c_61 : Ref sig .tc := ⟨.hbm, 265, rfl⟩
abbrev main_v152 : Ref sig .tc := ⟨.hbm, 266, rfl⟩
abbrev main_v153 : Ref sig .tc := ⟨.hbm, 267, rfl⟩
abbrev main_v154 : Ref sig .tc := ⟨.hbm, 268, rfl⟩
abbrev main_c_62 : Ref sig .tc := ⟨.hbm, 269, rfl⟩
abbrev main_c_63 : Ref sig .tc := ⟨.hbm, 270, rfl⟩
abbrev main_call13_v0 : Ref sig .tc := ⟨.hbm, 271, rfl⟩
abbrev main_call13_v1 : Ref sig .tc := ⟨.hbm, 272, rfl⟩
abbrev main_call13_v2 : Ref sig .tc := ⟨.hbm, 273, rfl⟩
abbrev main_call13_v3 : Ref sig .tc := ⟨.hbm, 274, rfl⟩
abbrev main_call13_v4 : Ref sig .tc := ⟨.hbm, 275, rfl⟩
abbrev main_v155 : Ref sig .tc := ⟨.hbm, 276, rfl⟩
abbrev main_v156 : Ref sig .tc := ⟨.hbm, 277, rfl⟩
abbrev main_c_64 : Ref sig .tc := ⟨.hbm, 278, rfl⟩
abbrev main_v157 : Ref sig .tc := ⟨.hbm, 279, rfl⟩
abbrev main_v158 : Ref sig .tc := ⟨.hbm, 280, rfl⟩
abbrev main_c_65 : Ref sig .tc := ⟨.hbm, 281, rfl⟩
abbrev main_v159 : Ref sig .tc := ⟨.hbm, 282, rfl⟩
abbrev main_v160 : Ref sig .tc := ⟨.hbm, 283, rfl⟩
abbrev main_v161 : Ref sig .tc := ⟨.hbm, 284, rfl⟩
abbrev main_c_66 : Ref sig .tc := ⟨.hbm, 285, rfl⟩
abbrev main_v162 : Ref sig .tc := ⟨.hbm, 286, rfl⟩
abbrev main_v163 : Ref sig .tc := ⟨.hbm, 287, rfl⟩
abbrev main_c_67 : Ref sig .tc := ⟨.hbm, 288, rfl⟩
abbrev main_c_68 : Ref sig .tc := ⟨.hbm, 289, rfl⟩
abbrev main_call15_v0 : Ref sig .tc := ⟨.hbm, 290, rfl⟩
abbrev main_call15_v1 : Ref sig .tc := ⟨.hbm, 291, rfl⟩
abbrev main_call15_v2 : Ref sig .tc := ⟨.hbm, 292, rfl⟩
abbrev main_call15_v3 : Ref sig .tc := ⟨.hbm, 293, rfl⟩
abbrev main_call15_v4 : Ref sig .tc := ⟨.hbm, 294, rfl⟩
abbrev main_v164 : Ref sig .tc := ⟨.hbm, 295, rfl⟩
abbrev main_v165 : Ref sig .tc := ⟨.hbm, 296, rfl⟩
abbrev main_c_69 : Ref sig .tc := ⟨.hbm, 297, rfl⟩
abbrev main_v166 : Ref sig .tc := ⟨.hbm, 298, rfl⟩
abbrev main_v167 : Ref sig .tc := ⟨.hbm, 299, rfl⟩
abbrev main_v168 : Ref sig .tc := ⟨.hbm, 300, rfl⟩
abbrev main_c_70 : Ref sig .tc := ⟨.hbm, 301, rfl⟩
abbrev main_c_71 : Ref sig .tc := ⟨.hbm, 302, rfl⟩
abbrev main_call16_v0 : Ref sig .tc := ⟨.hbm, 303, rfl⟩
abbrev main_call16_v1 : Ref sig .tc := ⟨.hbm, 304, rfl⟩
abbrev main_call16_v2 : Ref sig .tc := ⟨.hbm, 305, rfl⟩
abbrev main_call16_v3 : Ref sig .tc := ⟨.hbm, 306, rfl⟩
abbrev main_call16_v4 : Ref sig .tc := ⟨.hbm, 307, rfl⟩
abbrev main_v169 : Ref sig .tc := ⟨.hbm, 308, rfl⟩
abbrev main_v170 : Ref sig .tc := ⟨.hbm, 309, rfl⟩
abbrev main_c_72 : Ref sig .tc := ⟨.hbm, 310, rfl⟩
abbrev main_v171 : Ref sig .tc := ⟨.hbm, 311, rfl⟩
abbrev main_v172 : Ref sig .tc := ⟨.hbm, 312, rfl⟩
abbrev main_c_73 : Ref sig .tc := ⟨.hbm, 313, rfl⟩
abbrev main_v173 : Ref sig .tc := ⟨.hbm, 314, rfl⟩
abbrev main_v174 : Ref sig .tc := ⟨.hbm, 315, rfl⟩
abbrev main_v175 : Ref sig .tc := ⟨.hbm, 316, rfl⟩
abbrev main_v176 : Ref sig .tc := ⟨.hbm, 317, rfl⟩
abbrev main_v177 : Ref sig .tc := ⟨.hbm, 318, rfl⟩
abbrev main_v178 : Ref sig .tc := ⟨.hbm, 319, rfl⟩
abbrev main_c_74 : Ref sig .tc := ⟨.hbm, 320, rfl⟩
abbrev main_v179 : Ref sig .tc := ⟨.hbm, 321, rfl⟩
abbrev main_v180 : Ref sig .tc := ⟨.hbm, 322, rfl⟩
abbrev main_c_75 : Ref sig .tc := ⟨.hbm, 323, rfl⟩
abbrev main_v181 : Ref sig .tc := ⟨.hbm, 324, rfl⟩
abbrev main_v182 : Ref sig .tc := ⟨.hbm, 325, rfl⟩
abbrev main_v183 : Ref sig .tc := ⟨.hbm, 326, rfl⟩
abbrev main_v184 : Ref sig .tc := ⟨.hbm, 327, rfl⟩
abbrev main_v185 : Ref sig .tc := ⟨.hbm, 328, rfl⟩
abbrev main_c_76 : Ref sig .tc := ⟨.hbm, 329, rfl⟩
abbrev main_v186 : Ref sig .tc := ⟨.hbm, 330, rfl⟩
abbrev main_v187 : Ref sig .tc := ⟨.hbm, 331, rfl⟩
abbrev main_c_77 : Ref sig .tc := ⟨.hbm, 332, rfl⟩
abbrev main_v188 : Ref sig .tc := ⟨.hbm, 333, rfl⟩
abbrev main_v189 : Ref sig .tc := ⟨.hbm, 334, rfl⟩
abbrev main_v190 : Ref sig .tc := ⟨.hbm, 335, rfl⟩
abbrev main_v191 : Ref sig .tc := ⟨.hbm, 336, rfl⟩
abbrev main_v192 : Ref sig .tc := ⟨.hbm, 337, rfl⟩
abbrev main_c_78 : Ref sig .tc := ⟨.hbm, 338, rfl⟩
abbrev main_v193 : Ref sig .tc := ⟨.hbm, 339, rfl⟩
abbrev main_v194 : Ref sig .tc := ⟨.hbm, 340, rfl⟩
abbrev main_c_79 : Ref sig .tc := ⟨.hbm, 341, rfl⟩
abbrev main_v195 : Ref sig .tc := ⟨.hbm, 342, rfl⟩
abbrev main_v196 : Ref sig .tc := ⟨.hbm, 343, rfl⟩
abbrev main_v197 : Ref sig .tc := ⟨.hbm, 344, rfl⟩
abbrev main_v198 : Ref sig .tc := ⟨.hbm, 345, rfl⟩
abbrev main_v199 : Ref sig .tc := ⟨.hbm, 346, rfl⟩
abbrev main_c_80 : Ref sig .tc := ⟨.hbm, 347, rfl⟩
abbrev main_v200 : Ref sig .tc := ⟨.hbm, 348, rfl⟩
abbrev main_v201 : Ref sig .tc := ⟨.hbm, 349, rfl⟩
abbrev main_c_81 : Ref sig .tc := ⟨.hbm, 350, rfl⟩
abbrev main_v202 : Ref sig .tc := ⟨.hbm, 351, rfl⟩
abbrev main_v203 : Ref sig .tc := ⟨.hbm, 352, rfl⟩
abbrev main_v204 : Ref sig .tc := ⟨.hbm, 353, rfl⟩
abbrev main_v205 : Ref sig .tc := ⟨.hbm, 354, rfl⟩
abbrev main_v206 : Ref sig .tc := ⟨.hbm, 355, rfl⟩
abbrev main_c_82 : Ref sig .tc := ⟨.hbm, 356, rfl⟩
abbrev main_v207 : Ref sig .tc := ⟨.hbm, 357, rfl⟩
abbrev main_v208 : Ref sig .tc := ⟨.hbm, 358, rfl⟩
abbrev main_c_83 : Ref sig .tc := ⟨.hbm, 359, rfl⟩
abbrev main_v209 : Ref sig .tc := ⟨.hbm, 360, rfl⟩
abbrev main_v210 : Ref sig .tc := ⟨.hbm, 361, rfl⟩
abbrev main_v211 : Ref sig .tc := ⟨.hbm, 362, rfl⟩
abbrev main_v212 : Ref sig .tc := ⟨.hbm, 363, rfl⟩
abbrev main_v213 : Ref sig .tc := ⟨.hbm, 364, rfl⟩
abbrev main_c_84 : Ref sig .tc := ⟨.hbm, 365, rfl⟩
abbrev main_v214 : Ref sig .tc := ⟨.hbm, 366, rfl⟩
abbrev main_v215 : Ref sig .tc := ⟨.hbm, 367, rfl⟩
abbrev main_c_85 : Ref sig .tc := ⟨.hbm, 368, rfl⟩
abbrev main_v216 : Ref sig .tc := ⟨.hbm, 369, rfl⟩
abbrev main_v217 : Ref sig .tc := ⟨.hbm, 370, rfl⟩
abbrev main_v218 : Ref sig .tc := ⟨.hbm, 371, rfl⟩
abbrev main_v219 : Ref sig .tc := ⟨.hbm, 372, rfl⟩
abbrev main_v220 : Ref sig .tc := ⟨.hbm, 373, rfl⟩
abbrev main_c_86 : Ref sig .tc := ⟨.hbm, 374, rfl⟩
abbrev main_v221 : Ref sig .tc := ⟨.hbm, 375, rfl⟩
abbrev main_v222 : Ref sig .tc := ⟨.hbm, 376, rfl⟩
abbrev main_c_87 : Ref sig .tc := ⟨.hbm, 377, rfl⟩
abbrev main_v223 : Ref sig .tc := ⟨.hbm, 378, rfl⟩
abbrev main_v224 : Ref sig .tc := ⟨.hbm, 379, rfl⟩
abbrev main_v225 : Ref sig .tc := ⟨.hbm, 380, rfl⟩
abbrev main_v226 : Ref sig .tc := ⟨.hbm, 381, rfl⟩
abbrev main_v227 : Ref sig .tc := ⟨.hbm, 382, rfl⟩
abbrev main_c_88 : Ref sig .tc := ⟨.hbm, 383, rfl⟩
abbrev main_v228 : Ref sig .tc := ⟨.hbm, 384, rfl⟩
abbrev main_v229 : Ref sig .tc := ⟨.hbm, 385, rfl⟩
abbrev main_c_89 : Ref sig .tc := ⟨.hbm, 386, rfl⟩
abbrev main_v230 : Ref sig .tc := ⟨.hbm, 387, rfl⟩
abbrev main_v231 : Ref sig .tc := ⟨.hbm, 388, rfl⟩
abbrev main_v232 : Ref sig .tc := ⟨.hbm, 389, rfl⟩
abbrev main_v233 : Ref sig .tc := ⟨.hbm, 390, rfl⟩
abbrev main_v234 : Ref sig .tc := ⟨.hbm, 391, rfl⟩
abbrev main_c_90 : Ref sig .tc := ⟨.hbm, 392, rfl⟩
abbrev main_v235 : Ref sig .tc := ⟨.hbm, 393, rfl⟩
abbrev main_v236 : Ref sig .tc := ⟨.hbm, 394, rfl⟩
abbrev main_c_91 : Ref sig .tc := ⟨.hbm, 395, rfl⟩
abbrev main_v237 : Ref sig .tc := ⟨.hbm, 396, rfl⟩
abbrev main_v238 : Ref sig .tc := ⟨.hbm, 397, rfl⟩
abbrev main_v239 : Ref sig .tc := ⟨.hbm, 398, rfl⟩
abbrev main_v240 : Ref sig .tc := ⟨.hbm, 399, rfl⟩
abbrev main_v241 : Ref sig .tc := ⟨.hbm, 400, rfl⟩
abbrev main_c_92 : Ref sig .tc := ⟨.hbm, 401, rfl⟩
abbrev main_v242 : Ref sig .tc := ⟨.hbm, 402, rfl⟩
abbrev main_v243 : Ref sig .tc := ⟨.hbm, 403, rfl⟩
abbrev main_c_93 : Ref sig .tc := ⟨.hbm, 404, rfl⟩
abbrev main_v244 : Ref sig .tc := ⟨.hbm, 405, rfl⟩
abbrev main_v245 : Ref sig .tc := ⟨.hbm, 406, rfl⟩
abbrev main_v246 : Ref sig .tc := ⟨.hbm, 407, rfl⟩
abbrev main_v247 : Ref sig .tc := ⟨.hbm, 408, rfl⟩
abbrev main_v248 : Ref sig .tc := ⟨.hbm, 409, rfl⟩
abbrev main_c_94 : Ref sig .tc := ⟨.hbm, 410, rfl⟩
abbrev main_v249 : Ref sig .tc := ⟨.hbm, 411, rfl⟩
abbrev main_v250 : Ref sig .tc := ⟨.hbm, 412, rfl⟩
abbrev main_c_95 : Ref sig .tc := ⟨.hbm, 413, rfl⟩
abbrev main_v251 : Ref sig .tc := ⟨.hbm, 414, rfl⟩
abbrev main_v252 : Ref sig .tc := ⟨.hbm, 415, rfl⟩
abbrev main_v253 : Ref sig .tc := ⟨.hbm, 416, rfl⟩
abbrev main_v254 : Ref sig .tc := ⟨.hbm, 417, rfl⟩
abbrev main_v255 : Ref sig .tc := ⟨.hbm, 418, rfl⟩
abbrev main_c_96 : Ref sig .tc := ⟨.hbm, 419, rfl⟩
abbrev main_v256 : Ref sig .tc := ⟨.hbm, 420, rfl⟩
abbrev main_v257 : Ref sig .tc := ⟨.hbm, 421, rfl⟩
abbrev main_c_97 : Ref sig .tc := ⟨.hbm, 422, rfl⟩
abbrev main_v258 : Ref sig .tc := ⟨.hbm, 423, rfl⟩
abbrev main_v259 : Ref sig .tc := ⟨.hbm, 424, rfl⟩
abbrev main_v260 : Ref sig .tc := ⟨.hbm, 425, rfl⟩
abbrev main_v261 : Ref sig .tc := ⟨.hbm, 426, rfl⟩
abbrev main_v262 : Ref sig .tc := ⟨.hbm, 427, rfl⟩
abbrev main_c_98 : Ref sig .tc := ⟨.hbm, 428, rfl⟩
abbrev main_v263 : Ref sig .tc := ⟨.hbm, 429, rfl⟩
abbrev main_v264 : Ref sig .tc := ⟨.hbm, 430, rfl⟩
abbrev main_c_99 : Ref sig .tc := ⟨.hbm, 431, rfl⟩
abbrev main_v265 : Ref sig .tc := ⟨.hbm, 432, rfl⟩
abbrev main_v266 : Ref sig .tc := ⟨.hbm, 433, rfl⟩
abbrev main_v267 : Ref sig .tc := ⟨.hbm, 434, rfl⟩
abbrev main_v268 : Ref sig .tc := ⟨.hbm, 435, rfl⟩
abbrev main_v269 : Ref sig .tc := ⟨.hbm, 436, rfl⟩
abbrev main_c_100 : Ref sig .tc := ⟨.hbm, 437, rfl⟩
abbrev main_v270 : Ref sig .tc := ⟨.hbm, 438, rfl⟩
abbrev main_v271 : Ref sig .tc := ⟨.hbm, 439, rfl⟩
abbrev main_c_101 : Ref sig .tc := ⟨.hbm, 440, rfl⟩
abbrev main_v272 : Ref sig .tc := ⟨.hbm, 441, rfl⟩
abbrev main_v273 : Ref sig .tc := ⟨.hbm, 442, rfl⟩
abbrev main_v274 : Ref sig .tc := ⟨.hbm, 443, rfl⟩
abbrev main_v275 : Ref sig .tc := ⟨.hbm, 444, rfl⟩
abbrev main_v276 : Ref sig .tc := ⟨.hbm, 445, rfl⟩
abbrev main_c_102 : Ref sig .tc := ⟨.hbm, 446, rfl⟩
abbrev main_v277 : Ref sig .tc := ⟨.hbm, 447, rfl⟩
abbrev main_v278 : Ref sig .tc := ⟨.hbm, 448, rfl⟩
abbrev main_c_103 : Ref sig .tc := ⟨.hbm, 449, rfl⟩
abbrev main_v279 : Ref sig .tc := ⟨.hbm, 450, rfl⟩
abbrev main_v280 : Ref sig .tc := ⟨.hbm, 451, rfl⟩
abbrev main_v281 : Ref sig .tc := ⟨.hbm, 452, rfl⟩
abbrev main_v282 : Ref sig .tc := ⟨.hbm, 453, rfl⟩
abbrev main_v283 : Ref sig .tc := ⟨.hbm, 454, rfl⟩
abbrev main_c_104 : Ref sig .tc := ⟨.hbm, 455, rfl⟩
abbrev main_v284 : Ref sig .tc := ⟨.hbm, 456, rfl⟩
abbrev main_v285 : Ref sig .tc := ⟨.hbm, 457, rfl⟩
abbrev main_c_105 : Ref sig .tc := ⟨.hbm, 458, rfl⟩
abbrev main_v286 : Ref sig .tc := ⟨.hbm, 459, rfl⟩
abbrev main_v287 : Ref sig .tc := ⟨.hbm, 460, rfl⟩
abbrev main_v288 : Ref sig .tc := ⟨.hbm, 461, rfl⟩
abbrev main_v289 : Ref sig .tc := ⟨.hbm, 462, rfl⟩
abbrev main_v290 : Ref sig .tc := ⟨.hbm, 463, rfl⟩
abbrev main_c_106 : Ref sig .tc := ⟨.hbm, 464, rfl⟩
abbrev main_v291 : Ref sig .tc := ⟨.hbm, 465, rfl⟩
abbrev main_v292 : Ref sig .tc := ⟨.hbm, 466, rfl⟩
abbrev main_c_107 : Ref sig .tc := ⟨.hbm, 467, rfl⟩
abbrev main_v293 : Ref sig .tc := ⟨.hbm, 468, rfl⟩
abbrev main_v294 : Ref sig .tc := ⟨.hbm, 469, rfl⟩
abbrev main_v295 : Ref sig .tc := ⟨.hbm, 470, rfl⟩
abbrev main_v296 : Ref sig .tc := ⟨.hbm, 471, rfl⟩
abbrev main_v297 : Ref sig .tc := ⟨.hbm, 472, rfl⟩
abbrev main_c_108 : Ref sig .tc := ⟨.hbm, 473, rfl⟩
abbrev main_v298 : Ref sig .tc := ⟨.hbm, 474, rfl⟩
abbrev main_v299 : Ref sig .tc := ⟨.hbm, 475, rfl⟩
abbrev main_c_109 : Ref sig .tc := ⟨.hbm, 476, rfl⟩
abbrev main_v300 : Ref sig .tc := ⟨.hbm, 477, rfl⟩
abbrev main_v301 : Ref sig .tc := ⟨.hbm, 478, rfl⟩
abbrev main_v302 : Ref sig .tc := ⟨.hbm, 479, rfl⟩
abbrev main_v303 : Ref sig .tc := ⟨.hbm, 480, rfl⟩
abbrev main_v304 : Ref sig .tc := ⟨.hbm, 481, rfl⟩
abbrev main_c_110 : Ref sig .tc := ⟨.hbm, 482, rfl⟩
abbrev main_v305 : Ref sig .tc := ⟨.hbm, 483, rfl⟩
abbrev main_v306 : Ref sig .tc := ⟨.hbm, 484, rfl⟩
abbrev main_c_111 : Ref sig .tc := ⟨.hbm, 485, rfl⟩
abbrev main_v307 : Ref sig .tc := ⟨.hbm, 486, rfl⟩
abbrev main_v308 : Ref sig .tc := ⟨.hbm, 487, rfl⟩
abbrev main_v309 : Ref sig .tc := ⟨.hbm, 488, rfl⟩
abbrev main_v310 : Ref sig .tc := ⟨.hbm, 489, rfl⟩
abbrev main_v311 : Ref sig .tc := ⟨.hbm, 490, rfl⟩
abbrev main_c_112 : Ref sig .tc := ⟨.hbm, 491, rfl⟩
abbrev main_v312 : Ref sig .tc := ⟨.hbm, 492, rfl⟩
abbrev main_v313 : Ref sig .tc := ⟨.hbm, 493, rfl⟩
abbrev main_c_113 : Ref sig .tc := ⟨.hbm, 494, rfl⟩
abbrev main_v314 : Ref sig .tc := ⟨.hbm, 495, rfl⟩
abbrev main_v315 : Ref sig .tc := ⟨.hbm, 496, rfl⟩
abbrev main_v316 : Ref sig .tc := ⟨.hbm, 497, rfl⟩
abbrev main_v317 : Ref sig .tc := ⟨.hbm, 498, rfl⟩
abbrev main_v318 : Ref sig .tc := ⟨.hbm, 499, rfl⟩
abbrev main_c_114 : Ref sig .tc := ⟨.hbm, 500, rfl⟩
abbrev main_v319 : Ref sig .tc := ⟨.hbm, 501, rfl⟩
abbrev main_v320 : Ref sig .tc := ⟨.hbm, 502, rfl⟩
abbrev main_c_115 : Ref sig .tc := ⟨.hbm, 503, rfl⟩
abbrev main_v321 : Ref sig .tc := ⟨.hbm, 504, rfl⟩
abbrev main_v322 : Ref sig .tc := ⟨.hbm, 505, rfl⟩
abbrev main_v323 : Ref sig .tc := ⟨.hbm, 506, rfl⟩
abbrev main_v324 : Ref sig .tc := ⟨.hbm, 507, rfl⟩
abbrev main_v325 : Ref sig .tc := ⟨.hbm, 508, rfl⟩
abbrev main_c_116 : Ref sig .tc := ⟨.hbm, 509, rfl⟩
abbrev main_v326 : Ref sig .tc := ⟨.hbm, 510, rfl⟩
abbrev main_v327 : Ref sig .tc := ⟨.hbm, 511, rfl⟩
abbrev main_c_117 : Ref sig .tc := ⟨.hbm, 512, rfl⟩
abbrev main_v328 : Ref sig .tc := ⟨.hbm, 513, rfl⟩
abbrev main_v329 : Ref sig .tc := ⟨.hbm, 514, rfl⟩
abbrev main_v330 : Ref sig .tc := ⟨.hbm, 515, rfl⟩
abbrev main_v331 : Ref sig .tc := ⟨.hbm, 516, rfl⟩
abbrev main_v332 : Ref sig .tc := ⟨.hbm, 517, rfl⟩
abbrev main_c_118 : Ref sig .tc := ⟨.hbm, 518, rfl⟩
abbrev main_v333 : Ref sig .tc := ⟨.hbm, 519, rfl⟩
abbrev main_v334 : Ref sig .tc := ⟨.hbm, 520, rfl⟩
abbrev main_c_119 : Ref sig .tc := ⟨.hbm, 521, rfl⟩
abbrev main_v335 : Ref sig .tc := ⟨.hbm, 522, rfl⟩
abbrev main_v336 : Ref sig .tc := ⟨.hbm, 523, rfl⟩
abbrev main_v337 : Ref sig .tc := ⟨.hbm, 524, rfl⟩
abbrev main_v338 : Ref sig .tc := ⟨.hbm, 525, rfl⟩
abbrev main_v339 : Ref sig .tc := ⟨.hbm, 526, rfl⟩
abbrev main_c_120 : Ref sig .tc := ⟨.hbm, 527, rfl⟩
abbrev main_v340 : Ref sig .tc := ⟨.hbm, 528, rfl⟩
abbrev main_v341 : Ref sig .tc := ⟨.hbm, 529, rfl⟩
abbrev main_c_121 : Ref sig .tc := ⟨.hbm, 530, rfl⟩
abbrev main_v342 : Ref sig .tc := ⟨.hbm, 531, rfl⟩
abbrev main_v343 : Ref sig .tc := ⟨.hbm, 532, rfl⟩
abbrev main_v344 : Ref sig .tc := ⟨.hbm, 533, rfl⟩
abbrev main_v345 : Ref sig .tc := ⟨.hbm, 534, rfl⟩
abbrev main_v346 : Ref sig .tc := ⟨.hbm, 535, rfl⟩
abbrev main_v347 : Ref sig .tc := ⟨.hbm, 536, rfl⟩
abbrev main_v348 : Ref sig .tc := ⟨.hbm, 537, rfl⟩
abbrev main_v349 : Ref sig .tc := ⟨.hbm, 538, rfl⟩
abbrev main_v350 : Ref sig .tc := ⟨.hbm, 539, rfl⟩
abbrev main_v351 : Ref sig .tc := ⟨.hbm, 540, rfl⟩
abbrev main_v352 : Ref sig .tc := ⟨.hbm, 541, rfl⟩
abbrev main_v353 : Ref sig .tc := ⟨.hbm, 542, rfl⟩
abbrev main_v354 : Ref sig .tc := ⟨.hbm, 543, rfl⟩
abbrev main_v355 : Ref sig .tc := ⟨.hbm, 544, rfl⟩
abbrev main_v356 : Ref sig .tc := ⟨.hbm, 545, rfl⟩
abbrev main_v357 : Ref sig .tc := ⟨.hbm, 546, rfl⟩
abbrev main_v358 : Ref sig .tc := ⟨.hbm, 547, rfl⟩
abbrev main_v359 : Ref sig .tc := ⟨.hbm, 548, rfl⟩
abbrev main_v360 : Ref sig .tc := ⟨.hbm, 549, rfl⟩
abbrev main_v361 : Ref sig .tc := ⟨.hbm, 550, rfl⟩
abbrev main_v362 : Ref sig .tc := ⟨.hbm, 551, rfl⟩
abbrev main_c_122 : Ref sig .tc := ⟨.hbm, 552, rfl⟩
abbrev main_v363 : Ref sig .tc := ⟨.hbm, 553, rfl⟩
abbrev main_v364 : Ref sig .tc := ⟨.hbm, 554, rfl⟩
abbrev main_v365 : Ref sig .tc := ⟨.hbm, 555, rfl⟩
abbrev main_v366 : Ref sig .tc := ⟨.hbm, 556, rfl⟩
abbrev main_v367 : Ref sig .tc := ⟨.hbm, 557, rfl⟩
abbrev main_v368 : Ref sig .tc := ⟨.hbm, 558, rfl⟩
abbrev main_v369 : Ref sig .tc := ⟨.hbm, 559, rfl⟩
abbrev main_v370 : Ref sig .tc := ⟨.hbm, 560, rfl⟩
abbrev main_v371 : Ref sig .tc := ⟨.hbm, 561, rfl⟩
abbrev main_v372 : Ref sig .tc := ⟨.hbm, 562, rfl⟩
abbrev main_v373 : Ref sig .tc := ⟨.hbm, 563, rfl⟩
abbrev main_v374 : Ref sig .tc := ⟨.hbm, 564, rfl⟩
abbrev main_v375 : Ref sig .tc := ⟨.hbm, 565, rfl⟩
abbrev main_v376 : Ref sig .tc := ⟨.hbm, 566, rfl⟩
abbrev main_v377 : Ref sig .tc := ⟨.hbm, 567, rfl⟩
abbrev main_v378 : Ref sig .tc := ⟨.hbm, 568, rfl⟩
abbrev main_v379 : Ref sig .tc := ⟨.hbm, 569, rfl⟩
abbrev main_v380 : Ref sig .tc := ⟨.hbm, 570, rfl⟩
abbrev main_v381 : Ref sig .tc := ⟨.hbm, 571, rfl⟩
abbrev main_v382 : Ref sig .tc := ⟨.hbm, 572, rfl⟩
abbrev main_v383 : Ref sig .tc := ⟨.hbm, 573, rfl⟩
abbrev main_c_123 : Ref sig .tc := ⟨.hbm, 574, rfl⟩
abbrev main_v384 : Ref sig .tc := ⟨.hbm, 575, rfl⟩
abbrev main_v385 : Ref sig .tc := ⟨.hbm, 576, rfl⟩
abbrev main_c_124 : Ref sig .tc := ⟨.hbm, 577, rfl⟩
abbrev main_v386 : Ref sig .tc := ⟨.hbm, 578, rfl⟩
abbrev main_v387 : Ref sig .tc := ⟨.hbm, 579, rfl⟩
abbrev main_v388 : Ref sig .tc := ⟨.hbm, 580, rfl⟩
abbrev main_c_125 : Ref sig .tc := ⟨.hbm, 581, rfl⟩
abbrev main_v389 : Ref sig .tc := ⟨.hbm, 582, rfl⟩
abbrev main_v390 : Ref sig .tc := ⟨.hbm, 583, rfl⟩
abbrev main_c_126 : Ref sig .tc := ⟨.hbm, 584, rfl⟩
abbrev main_v391 : Ref sig .tc := ⟨.hbm, 585, rfl⟩
abbrev main_v392 : Ref sig .tc := ⟨.hbm, 586, rfl⟩
abbrev main_v393 : Ref sig .tc := ⟨.hbm, 587, rfl⟩
abbrev main_c_127 : Ref sig .tc := ⟨.hbm, 588, rfl⟩
abbrev main_v394 : Ref sig .tc := ⟨.hbm, 589, rfl⟩
abbrev main_v395 : Ref sig .tc := ⟨.hbm, 590, rfl⟩
abbrev main_c_128 : Ref sig .tc := ⟨.hbm, 591, rfl⟩
abbrev main_v396 : Ref sig .tc := ⟨.hbm, 592, rfl⟩
abbrev main_v397 : Ref sig .tc := ⟨.hbm, 593, rfl⟩
abbrev main_v398 : Ref sig .tc := ⟨.hbm, 594, rfl⟩
abbrev main_c_129 : Ref sig .tc := ⟨.hbm, 595, rfl⟩
abbrev main_v399 : Ref sig .tc := ⟨.hbm, 596, rfl⟩
abbrev main_v400 : Ref sig .tc := ⟨.hbm, 597, rfl⟩
abbrev main_c_130 : Ref sig .tc := ⟨.hbm, 598, rfl⟩
abbrev main_v401 : Ref sig .tc := ⟨.hbm, 599, rfl⟩
abbrev main_v402 : Ref sig .tc := ⟨.hbm, 600, rfl⟩
abbrev main_v403 : Ref sig .tc := ⟨.hbm, 601, rfl⟩
abbrev main_c_131 : Ref sig .tc := ⟨.hbm, 602, rfl⟩
abbrev main_v404 : Ref sig .tc := ⟨.hbm, 603, rfl⟩
abbrev main_v405 : Ref sig .tc := ⟨.hbm, 604, rfl⟩
abbrev main_c_132 : Ref sig .tc := ⟨.hbm, 605, rfl⟩
abbrev main_v406 : Ref sig .tc := ⟨.hbm, 606, rfl⟩
abbrev main_v407 : Ref sig .tc := ⟨.hbm, 607, rfl⟩
abbrev main_v408 : Ref sig .tc := ⟨.hbm, 608, rfl⟩
abbrev main_c_133 : Ref sig .tc := ⟨.hbm, 609, rfl⟩
abbrev main_v409 : Ref sig .tc := ⟨.hbm, 610, rfl⟩
abbrev main_v410 : Ref sig .tc := ⟨.hbm, 611, rfl⟩
abbrev main_c_134 : Ref sig .tc := ⟨.hbm, 612, rfl⟩
abbrev main_v411 : Ref sig .tc := ⟨.hbm, 613, rfl⟩
abbrev main_v412 : Ref sig .tc := ⟨.hbm, 614, rfl⟩
abbrev main_v413 : Ref sig .tc := ⟨.hbm, 615, rfl⟩
abbrev main_c_135 : Ref sig .tc := ⟨.hbm, 616, rfl⟩
abbrev main_v414 : Ref sig .tc := ⟨.hbm, 617, rfl⟩
abbrev main_v415 : Ref sig .tc := ⟨.hbm, 618, rfl⟩
abbrev main_c_136 : Ref sig .tc := ⟨.hbm, 619, rfl⟩
abbrev main_v416 : Ref sig .tc := ⟨.hbm, 620, rfl⟩
abbrev main_v417 : Ref sig .tc := ⟨.hbm, 621, rfl⟩
abbrev main_v418 : Ref sig .tc := ⟨.hbm, 622, rfl⟩
abbrev main_c_137 : Ref sig .tc := ⟨.hbm, 623, rfl⟩
abbrev main_v419 : Ref sig .tc := ⟨.hbm, 624, rfl⟩
abbrev main_v420 : Ref sig .tc := ⟨.hbm, 625, rfl⟩
abbrev main_c_138 : Ref sig .tc := ⟨.hbm, 626, rfl⟩
abbrev main_v421 : Ref sig .tc := ⟨.hbm, 627, rfl⟩
abbrev main_v422 : Ref sig .tc := ⟨.hbm, 628, rfl⟩
abbrev main_v423 : Ref sig .tc := ⟨.hbm, 629, rfl⟩
abbrev main_c_139 : Ref sig .tc := ⟨.hbm, 630, rfl⟩
abbrev main_v424 : Ref sig .tc := ⟨.hbm, 631, rfl⟩
abbrev main_v425 : Ref sig .tc := ⟨.hbm, 632, rfl⟩
abbrev main_c_140 : Ref sig .tc := ⟨.hbm, 633, rfl⟩
abbrev main_v426 : Ref sig .tc := ⟨.hbm, 634, rfl⟩
abbrev main_v427 : Ref sig .tc := ⟨.hbm, 635, rfl⟩
abbrev main_v428 : Ref sig .tc := ⟨.hbm, 636, rfl⟩
abbrev main_c_141 : Ref sig .tc := ⟨.hbm, 637, rfl⟩
abbrev main_v429 : Ref sig .tc := ⟨.hbm, 638, rfl⟩
abbrev main_v430 : Ref sig .tc := ⟨.hbm, 639, rfl⟩
abbrev main_v431 : Ref sig .tc := ⟨.hbm, 640, rfl⟩
abbrev main_c_142 : Ref sig .tc := ⟨.hbm, 641, rfl⟩
abbrev main_v432 : Ref sig .tc := ⟨.hbm, 642, rfl⟩
abbrev main_v433 : Ref sig .tc := ⟨.hbm, 643, rfl⟩
abbrev main_c_143 : Ref sig .tc := ⟨.hbm, 644, rfl⟩
abbrev main_v434 : Ref sig .tc := ⟨.hbm, 645, rfl⟩
abbrev main_v435 : Ref sig .tc := ⟨.hbm, 646, rfl⟩
abbrev main_v436 : Ref sig .tc := ⟨.hbm, 647, rfl⟩
abbrev main_c_144 : Ref sig .tc := ⟨.hbm, 648, rfl⟩
abbrev main_v437 : Ref sig .tc := ⟨.hbm, 649, rfl⟩
abbrev main_v438 : Ref sig .tc := ⟨.hbm, 650, rfl⟩
abbrev main_v439 : Ref sig .tc := ⟨.hbm, 651, rfl⟩
abbrev main_c_145 : Ref sig .tc := ⟨.hbm, 652, rfl⟩
abbrev main_v440 : Ref sig .tc := ⟨.hbm, 653, rfl⟩
abbrev main_v441 : Ref sig .tc := ⟨.hbm, 654, rfl⟩
abbrev main_c_146 : Ref sig .tc := ⟨.hbm, 655, rfl⟩
abbrev main_v442 : Ref sig .tc := ⟨.hbm, 656, rfl⟩
abbrev main_v443 : Ref sig .tc := ⟨.hbm, 657, rfl⟩
abbrev main_v444 : Ref sig .tc := ⟨.hbm, 658, rfl⟩
abbrev main_c_147 : Ref sig .tc := ⟨.hbm, 659, rfl⟩
abbrev main_v445 : Ref sig .tc := ⟨.hbm, 660, rfl⟩
abbrev main_v446 : Ref sig .tc := ⟨.hbm, 661, rfl⟩
abbrev main_v447 : Ref sig .tc := ⟨.hbm, 662, rfl⟩
abbrev main_c_148 : Ref sig .tc := ⟨.hbm, 663, rfl⟩
abbrev main_v448 : Ref sig .tc := ⟨.hbm, 664, rfl⟩
abbrev main_v449 : Ref sig .tc := ⟨.hbm, 665, rfl⟩
abbrev main_v450 : Ref sig .tc := ⟨.hbm, 666, rfl⟩
abbrev main_v451 : Ref sig .tc := ⟨.hbm, 667, rfl⟩
abbrev main_c_149 : Ref sig .tc := ⟨.hbm, 668, rfl⟩
abbrev main_c_150 : Ref sig .tc := ⟨.hbm, 669, rfl⟩
abbrev main_call19_v0 : Ref sig .tc := ⟨.hbm, 670, rfl⟩
abbrev main_call19_v1 : Ref sig .tc := ⟨.hbm, 671, rfl⟩
abbrev main_call19_v2 : Ref sig .tc := ⟨.hbm, 672, rfl⟩
abbrev main_call19_v3 : Ref sig .tc := ⟨.hbm, 673, rfl⟩
abbrev main_call19_v4 : Ref sig .tc := ⟨.hbm, 674, rfl⟩
abbrev main_v452 : Ref sig .tc := ⟨.hbm, 675, rfl⟩
abbrev main_c_151 : Ref sig .tc := ⟨.hbm, 676, rfl⟩
abbrev main_v453 : Ref sig .tc := ⟨.hbm, 677, rfl⟩
abbrev main_v454 : Ref sig .tc := ⟨.hbm, 678, rfl⟩
abbrev main_c_152 : Ref sig .tc := ⟨.hbm, 679, rfl⟩
abbrev main_c_153 : Ref sig .tc := ⟨.hbm, 680, rfl⟩
abbrev main_call20_v0 : Ref sig .tc := ⟨.hbm, 681, rfl⟩
abbrev main_call20_v1 : Ref sig .tc := ⟨.hbm, 682, rfl⟩
abbrev main_v455 : Ref sig .tc := ⟨.hbm, 683, rfl⟩
abbrev main_call21_v0 : Ref sig .tc := ⟨.hbm, 684, rfl⟩
abbrev main_v456 : Ref sig .tc := ⟨.hbm, 685, rfl⟩
abbrev main_v457 : Ref sig .tc := ⟨.hbm, 686, rfl⟩

abbrev nD : Nat := 1
abbrev τ : Topo := Topo.v7x

variable {F : FTy → Type} [FloatOps F]
-- ==== Proof.Words.lean ====
/- Integer operations on 32-bit words, read as operations on the integers the words stand for. `W z` is the word of
   the integer `z`. Sums, differences, products, masks and left shifts agree with the integers always; a right
   shift agrees where the integer fits the word. -/
module

public import Idealize.ShloMosaic.PureOps
public import Mathlib.Tactic.Linarith
public import Mathlib.Tactic.NormNum
public import Mathlib.Tactic.Positivity
public import Mathlib.Tactic.Ring
public import Mathlib.Tactic.Zify
public import Mathlib.Algebra.Order.Floor.Ring
public import Mathlib.Algebra.Order.Field.Basic

@[expose] public section

namespace Cert.Fixed

open Idealize.ShloMosaic

/-- The 32-bit word of an integer. -/
abbrev W (z : ℤ) : BitVec 32 := BitVec.ofInt 32 z

/-- A word is the word of its signed reading. -/
theorem W_toInt (x : BitVec 32) : W x.toInt = x := BitVec.ofInt_toInt

theorem ofInt_toNat {w : ℕ} (x : BitVec w) : BitVec.ofInt w (x.toNat : ℤ) = x := by
  apply BitVec.eq_of_toNat_eq
  rw [BitVec.toNat_ofInt]
  have := x.isLt
  have h : ((x.toNat : ℤ) % ((2 ^ w : ℕ) : ℤ)) = (x.toNat : ℤ) := Int.emod_eq_of_lt (by omega) (by exact_mod_cast this)
  rw [h]; simp

/-- A word is the word of its unsigned reading. -/
theorem W_toNat (x : BitVec 32) : W (x.toNat : ℤ) = x := ofInt_toNat x

theorem toInt_W {z : ℤ} (h1 : -2 ^ 31 ≤ z) (h2 : z < 2 ^ 31) : (W z).toInt = z := by
  rw [BitVec.toInt_ofInt]; apply Int.bmod_eq_of_le <;> omega

theorem toNat_W (z : ℤ) : (W z).toNat = (z % 2 ^ 32).toNat := by
  rw [BitVec.toNat_ofInt]; norm_num

/-- Two integers that differ by a multiple of `2 ^ 32` have one word. -/
theorem W_congr {a b : ℤ} (k : ℤ) (h : a = b + 2 ^ 32 * k) : W a = W b := by
  apply BitVec.eq_of_toNat_eq
  rw [toNat_W, toNat_W]; congr 1; omega

theorem addi_W (a b : ℤ) : IntOp.addi (W a) (W b) = W (a + b) := (BitVec.ofInt_add a b).symm
theorem muli_W (a b : ℤ) : IntOp.muli (W a) (W b) = W (a * b) := (BitVec.ofInt_mul a b).symm
theorem subi_W (a b : ℤ) : IntOp.subi (W a) (W b) = W (a - b) := by
  unfold IntOp.subi W
  rw [Int.sub_eq_add_neg, BitVec.ofInt_add, BitVec.ofInt_neg, BitVec.sub_eq_add_neg]

theorem andi_W_pow (z : ℤ) (k : ℕ) (hk : k ≤ 32) : IntOp.andi (W z) (BitVec.ofNat 32 (2 ^ k - 1)) = W (z % 2 ^ k) := by
  apply BitVec.eq_of_toNat_eq
  unfold IntOp.andi
  rw [BitVec.toNat_and, toNat_W, toNat_W, BitVec.toNat_ofNat]
  have h2 : (2:ℕ) ^ k ≤ 2 ^ 32 := Nat.pow_le_pow_right (by norm_num) hk
  have h0 : 0 < (2:ℕ) ^ k := Nat.pos_of_ne_zero (by positivity)
  rw [Nat.mod_eq_of_lt (by omega : 2 ^ k - 1 < 2 ^ 32), Nat.and_two_pow_sub_one_eq_mod]
  have hd : ((2:ℤ) ^ k) ∣ 2 ^ 32 := pow_dvd_pow 2 hk
  have hz : 0 ≤ z % 2 ^ 32 := Int.emod_nonneg _ (by norm_num)
  zify
  rw [Int.toNat_of_nonneg hz, Int.emod_emod_of_dvd _ hd]
  have hp : (0:ℤ) < 2 ^ k := by positivity
  have a1 := Int.emod_nonneg z (ne_of_gt hp)
  have a2 := Int.emod_lt_of_pos z hp
  have h2' : (2:ℤ) ^ k ≤ 2 ^ 32 := by exact_mod_cast h2
  rw [Int.emod_eq_of_lt a1 (by omega), Int.toNat_of_nonneg a1]

theorem andi15 (z : ℤ) : IntOp.andi (W z) 32767#32 = W (z % 32768) := andi_W_pow z 15 (by norm_num)
theorem andi16 (z : ℤ) : IntOp.andi (W z) 65535#32 = W (z % 65536) := andi_W_pow z 16 (by norm_num)
theorem andi13 (z : ℤ) : IntOp.andi (W z) 8191#32 = W (z % 8192) := andi_W_pow z 13 (by norm_num)
theorem andi8 (z : ℤ) : IntOp.andi (W z) 255#32 = W (z % 256) := andi_W_pow z 8 (by norm_num)

/-- An arithmetic right shift of a word whose integer fits it. -/
theorem shrsi_W (u : ArithUnit) {z : ℤ} (h1 : -2 ^ 31 ≤ z) (h2 : z < 2 ^ 31) {n : ℤ} (hn : 0 ≤ n) (hn' : n < 32) :
    IntOp.shrsi u (W z) (W n) = W (z / 2 ^ n.toNat) := by
  have e : (W n).toNat = n.toNat := by rw [toNat_W]; congr 1; omega
  unfold IntOp.shrsi
  rw [if_pos (by rw [e]; omega)]
  apply BitVec.eq_of_toInt_eq
  rw [BitVec.sshiftRight', BitVec.toInt_sshiftRight, toInt_W h1 h2, Int.shiftRight_eq_div_pow, e]
  have hp : (1:ℤ) ≤ 2 ^ n.toNat := one_le_pow₀ (by norm_num)
  rw [toInt_W]
  · push_cast; rfl
  · rw [Int.le_ediv_iff_mul_le (by omega)]; nlinarith
  · apply Int.ediv_lt_of_lt_mul (by omega); nlinarith

/-- A logical right shift of a word whose integer is its unsigned reading. -/
theorem shrui_W (u : ArithUnit) {z : ℤ} (h1 : 0 ≤ z) (h2 : z < 2 ^ 32) {n : ℤ} (hn : 0 ≤ n) (hn' : n < 32) :
    IntOp.shrui u (W z) (W n) = W (z / 2 ^ n.toNat) := by
  have e : (W n).toNat = n.toNat := by rw [toNat_W]; congr 1; omega
  unfold IntOp.shrui
  rw [if_pos (by rw [e]; omega)]
  apply BitVec.eq_of_toNat_eq
  rw [BitVec.ushiftRight_eq', BitVec.toNat_ushiftRight, e, toNat_W, toNat_W, Nat.shiftRight_eq_div_pow,
    Int.emod_eq_of_lt h1 h2]
  have hp : (1:ℤ) ≤ 2 ^ n.toNat := one_le_pow₀ (by norm_num)
  have hq : 0 ≤ z / 2 ^ n.toNat := Int.ediv_nonneg h1 (by omega)
  have hq' : z / 2 ^ n.toNat < 2 ^ 32 := by apply Int.ediv_lt_of_lt_mul (by omega); nlinarith
  rw [Int.emod_eq_of_lt hq hq']
  zify
  rw [Int.toNat_of_nonneg h1, Int.toNat_of_nonneg hq]

/-- A left shift by less than the width. -/
theorem shli_W (u : ArithUnit) (z : ℤ) {n : ℤ} (hn : 0 ≤ n) (hn' : n < 32) :
    IntOp.shli u (W z) (W n) = W (z * 2 ^ n.toNat) := by
  have e : (W n).toNat = n.toNat := by rw [toNat_W]; congr 1; omega
  unfold IntOp.shli
  rw [if_pos (by rw [e]; omega), BitVec.shiftLeft_eq', e, BitVec.shiftLeft_eq_mul_twoPow]
  unfold W
  rw [BitVec.ofInt_mul]
  congr 1
  apply BitVec.eq_of_toNat_eq
  rw [BitVec.toNat_twoPow, BitVec.toNat_ofInt]
  norm_cast

theorem toInt_bounds (x : BitVec 32) : -2 ^ 31 ≤ x.toInt ∧ x.toInt < 2 ^ 31 :=
  ⟨by have := BitVec.le_toInt x; norm_num at this ⊢; exact this, by have := BitVec.toInt_lt (x := x); norm_num at this ⊢; exact this⟩

theorem maxsi_W {a b : ℤ} (ha : -2 ^ 31 ≤ a) (ha' : a < 2 ^ 31) (hb : -2 ^ 31 ≤ b) (hb' : b < 2 ^ 31) :
    IntOp.maxsi (W a) (W b) = W (max a b) := by
  unfold IntOp.maxsi
  rw [BitVec.slt_eq_decide, toInt_W ha ha', toInt_W hb hb']
  rcases lt_or_ge b a with h | h
  · simp [h, max_eq_left h.le]
  · simp [not_lt.2 h, max_eq_right h]

theorem minsi_W {a b : ℤ} (ha : -2 ^ 31 ≤ a) (ha' : a < 2 ^ 31) (hb : -2 ^ 31 ≤ b) (hb' : b < 2 ^ 31) :
    IntOp.minsi (W a) (W b) = W (min a b) := by
  unfold IntOp.minsi
  rw [BitVec.slt_eq_decide, toInt_W ha ha', toInt_W hb hb']
  rcases lt_or_ge a b with h | h
  · simp [h, min_eq_left h.le]
  · simp [not_lt.2 h, min_eq_right h]

theorem select_ofBool {α : Type} (p : Prop) [Decidable p] (a b : α) :
    Scalar.select (BitVec.ofBool (decide p)) a b = if p then a else b := by
  unfold Scalar.select
  by_cases h : p <;> simp [h]

theorem slt_W {a b : ℤ} (ha : -2 ^ 31 ≤ a) (ha' : a < 2 ^ 31) (hb : -2 ^ 31 ≤ b) (hb' : b < 2 ^ 31) :
    IntOp.cmpi .slt (W a) (W b) = BitVec.ofBool (decide (a < b)) := by
  simp only [IntOp.cmpi]
  rw [BitVec.slt_eq_decide, toInt_W ha ha', toInt_W hb hb']

theorem sge_W {a b : ℤ} (ha : -2 ^ 31 ≤ a) (ha' : a < 2 ^ 31) (hb : -2 ^ 31 ≤ b) (hb' : b < 2 ^ 31) :
    IntOp.cmpi .sge (W a) (W b) = BitVec.ofBool (decide (b ≤ a)) := by
  simp only [IntOp.cmpi]
  rw [BitVec.sle_eq_decide, toInt_W ha ha', toInt_W hb hb']

theorem eq_W {a b : ℤ} (ha : -2 ^ 31 ≤ a) (ha' : a < 2 ^ 31) (hb : -2 ^ 31 ≤ b) (hb' : b < 2 ^ 31) :
    IntOp.cmpi .eq (W a) (W b) = BitVec.ofBool (decide (a = b)) := by
  have : (W a = W b) ↔ a = b := ⟨fun h => by rw [← toInt_W ha ha', ← toInt_W hb hb', h], fun h => by rw [h]⟩
  simp only [IntOp.cmpi]
  congr 1
  rw [Bool.eq_iff_iff]
  simp [this]

theorem andi_ofBool (p q : Prop) [Decidable p] [Decidable q] :
    IntOp.andi (BitVec.ofBool (decide p)) (BitVec.ofBool (decide q)) = BitVec.ofBool (decide (p ∧ q)) := by
  unfold IntOp.andi
  by_cases h : p <;> by_cases h' : q <;> simp [h, h']

theorem ori_ofBool (p q : Prop) [Decidable p] [Decidable q] :
    IntOp.ori (BitVec.ofBool (decide p)) (BitVec.ofBool (decide q)) = BitVec.ofBool (decide (p ∨ q)) := by
  unfold IntOp.ori
  by_cases h : p <;> by_cases h' : q <;> simp [h, h']

/-- The low half of a word. -/
theorem setWidth16_W (z : ℤ) : (W z).setWidth 16 = BitVec.ofInt 16 z := by
  apply BitVec.eq_of_toNat_eq
  rw [BitVec.toNat_setWidth, toNat_W, BitVec.toNat_ofInt]
  norm_num
  omega

end Cert.Fixed
-- ==== Proof.InRange.lean ====
/- The precondition, read at a channel: the ranges of the shift, the multiplier and the bias's high word. -/
module

public import proofs.«01_k».proof.Proof.Words
public import proofs.«01_k».proof.Defs

@[expose] public section

noncomputable section

open Idealize.ShloMosaic

namespace Cert.Fixed

theorem ofBool_decide {p : Prop} [Decidable p] (h : BitVec.ofBool (decide p) = 1#1) : p := by
  by_contra hp
  simp [hp] at h

theorem sge_eq (x y : BitVec 32) : IntOp.cmpi .sge x y = BitVec.ofBool (decide (y.toInt ≤ x.toInt)) := rfl
theorem sle_eq (x y : BitVec 32) : IntOp.cmpi .sle x y = BitVec.ofBool (decide (x.toInt ≤ y.toInt)) := rfl

/-- The five comparisons of one channel, their conjunction set. -/
theorem bounds_of_word (b mu s : BitVec 32)
    (h : IntOp.andi (IntOp.andi (IntOp.andi (IntOp.andi (IntOp.cmpi .sge s 4294967265#32) (IntOp.cmpi .sle s 15#32))
      (IntOp.cmpi .sge mu 0#32)) (IntOp.cmpi .sge b 4294934532#32)) (IntOp.cmpi .sle b 32763#32) = 1#1) :
    -31 ≤ s.toInt ∧ s.toInt ≤ 15 ∧ 0 ≤ mu.toInt ∧ -32764 ≤ b.toInt ∧ b.toInt ≤ 32763 := by
  rw [sge_eq, sle_eq, sge_eq, sge_eq, sle_eq, andi_ofBool, andi_ofBool, andi_ofBool, andi_ofBool] at h
  obtain ⟨⟨⟨⟨h1, h2⟩, h3⟩, h4⟩, h5⟩ := ofBool_decide h
  exact ⟨h1, h2, h3, h4, h5⟩

open Cert.Pre_in_range in
/-- The predicate all ones bounds every channel. -/
theorem bounds_of_pre [Cert.Pre_in_range.Facts] (x : IVec S1x256x3584 16) (w : IVec S18944x3584 8) (lo hi mu s : IVec S18944 32)
    (h : Cert.Pre_in_range.fn (F := Ideal) x w lo hi mu s = fun _ => 1#1) (i : S18944.Idx) :
    -31 ≤ (s i).toInt ∧ (s i).toInt ≤ 15 ∧ 0 ≤ (mu i).toInt ∧ -32764 ≤ (hi i).toInt ∧ (hi i).toInt ≤ 32763 :=
  bounds_of_word (hi i) (mu i) (s i) (congrFun h i)

end Cert.Fixed

end
-- ==== Proof.KernelBlock.lean ====
/- What the kernel's body leaves at one grid point, with no memory left in it: the result block as a function of the carried
   scratch and the point's input blocks (`outB`, `outA`), and the scratch the first point writes (`soutA`). -/
module

public import proofs.«01_k».proof.Proof.Gen.KernelIdeal.Value
public import Idealize.ShloMosaic.Lib.Tactic

@[expose] public section

noncomputable section

open Idealize.ShloMosaic Idealize.ShloMosaic.TcCoe Idealize.SL.Sem

namespace Cert.KerArr

open Cert.KernelIdeal Cert.KernelIdeal.Gen

variable {F : FTy → Type} [FloatOps F]

theorem zero2 : (![0, 0] : Fin 2 → Nat) = fun _ => 0 := funext fun a => by fin_cases a <;> rfl

/-- The scratch after the first point: the high bytes of `x` in rows 0..255, the low bytes in rows 256..511. -/
def halves (x0 : Vec F S256x3584 .i16) : Vec F S512x3584 .bf16 :=
  View.canon [⟨Rect.unit ![256, 0] ![256, 3584] inb_S512x3584_S256x3584_256_0, k0_pay4 x0⟩,
    ⟨Rect.unit ![0, 0] ![256, 3584] inb_S512x3584_S256x3584_0_0, k0_pay3 x0⟩]

/-- The four chunk products of the scratch by the weights, each rounded to integers, added. -/
def sums (sc : Vec F S512x3584 .bf16) (x1 : Vec F S512x3584 .i8) : IVec S512x512 32 :=
  k0_pay5 (View.ld sc (Rect.unit ![0, 0] ![512, 1024] inb_S512x3584_S512x1024_0_0))
    (View.ld x1 (Rect.unit ![0, 0] ![512, 1024] inb_S512x3584_S512x1024_0_0))
    (View.ld sc (Rect.unit ![0, 1024] ![512, 1024] inb_S512x3584_S512x1024_0_1024))
    (View.ld x1 (Rect.unit ![0, 1024] ![512, 1024] inb_S512x3584_S512x1024_0_1024))
    (View.ld sc (Rect.unit ![0, 2048] ![512, 1024] inb_S512x3584_S512x1024_0_2048))
    (View.ld x1 (Rect.unit ![0, 2048] ![512, 1024] inb_S512x3584_S512x1024_0_2048))
    (View.ld sc (Rect.unit ![0, 3072] ![512, 512] inb_S512x3584_S512x512_0_3072))
    (View.ld x1 (Rect.unit ![0, 3072] ![512, 512] inb_S512x3584_S512x512_0_3072))

/-- The result block from the sums and the channels' bias halves, multipliers and shifts. -/
def tail (v29 : IVec S512x512 32) (x2 x3 x4 x5 : Vec F S1x512 .i32) : IVec S256x512 16 :=
  k0_pay32 (k0_pay12 x4 x5) (k0_pay13 x4 x5) (k0_pay14 x4 x5) (k0_pay15 x4 x5) (k0_pay26 v29 (k0_pay16 (k0_pay6 x2)))
    (k0_pay27 v29 (k0_pay16 (k0_pay6 x2)) (k0_pay17 (k0_pay6 x2) x3)) (k0_pay28 v29 (k0_pay16 (k0_pay6 x2)) (k0_pay17 (k0_pay6 x2) x3))
    (k0_pay29 v29 (k0_pay16 (k0_pay6 x2)) (k0_pay17 (k0_pay6 x2) x3))
    (k0_pay30 (F := F) v29 (k0_pay6 x2) (k0_pay8 x4) (k0_pay9 x5) (k0_pay16 (k0_pay6 x2)) (k0_pay18 x3) k0_pay19)
    (k0_pay31 (F := F) v29 (k0_pay8 x4) (k0_pay9 x5) (k0_pay16 (k0_pay6 x2)))

/-- At a later point the block is computed from the scratch as carried. -/
theorem outB (c : Dev nD) (i : grid0.Coords)
    (arg1 : Memref sig .tc .vmem S256x3584 .i16) (harg1 : arg1.IsWhole)
    (arg2 : Memref sig .tc .vmem S512x3584 .i8) (harg2 : arg2.IsWhole)
    (arg3 : Memref sig .tc .vmem S1x512 .i32) (harg3 : arg3.IsWhole)
    (arg4 : Memref sig .tc .vmem S1x512 .i32) (harg4 : arg4.IsWhole)
    (arg5 : Memref sig .tc .vmem S1x512 .i32) (harg5 : arg5.IsWhole)
    (arg6 : Memref sig .tc .vmem S1x512 .i32) (harg6 : arg6.IsWhole)
    (arg7 : Memref sig .tc .vmem S256x512 .i16) (harg7 : arg7.IsWhole)
    (arg8 : Memref sig .tc .vmem S512x3584 .bf16) (harg8 : arg8.IsWhole) (hc0 : ¬cond0_0 i)
    (x0 : Vec F S256x3584 .i16) (x1 : Vec F S512x3584 .i8) (x2 x3 x4 x5 : Vec F S1x512 .i32) (xs0 : Vec F S512x3584 .bf16) :
    out0_B_6 c i arg1 harg1 arg2 harg2 arg3 harg3 arg4 harg4 arg5 harg5 arg6 harg6 arg7 harg7 arg8 harg8 hc0 x0 x1 x2 x3 x4 x5 xs0 = tail (sums xs0 x1) x2 x3 x4 x5 := by
  unfold out0_B_6
  rw [View.read_writes_junk_eq_canon]
  unfold kernelRun0_B
  dsimp only
  rw [View.canon_unit_zero zero2]
  sl_unfold_words
  simp only [View.readAt_eq_ld, harg2.read_unread, harg3.read_unread, harg4.read_unread, harg5.read_unread,
    harg6.read_unread, harg8.read_unread, View.ld_unit_zero (S := S1x512) zero2]
  rfl

/-- At the first point it is computed from the scratch just written. -/
theorem outA (c : Dev nD) (i : grid0.Coords)
    (arg1 : Memref sig .tc .vmem S256x3584 .i16) (harg1 : arg1.IsWhole)
    (arg2 : Memref sig .tc .vmem S512x3584 .i8) (harg2 : arg2.IsWhole)
    (arg3 : Memref sig .tc .vmem S1x512 .i32) (harg3 : arg3.IsWhole)
    (arg4 : Memref sig .tc .vmem S1x512 .i32) (harg4 : arg4.IsWhole)
    (arg5 : Memref sig .tc .vmem S1x512 .i32) (harg5 : arg5.IsWhole)
    (arg6 : Memref sig .tc .vmem S1x512 .i32) (harg6 : arg6.IsWhole)
    (arg7 : Memref sig .tc .vmem S256x512 .i16) (harg7 : arg7.IsWhole)
    (arg8 : Memref sig .tc .vmem S512x3584 .bf16) (harg8 : arg8.IsWhole) (hc0 : cond0_0 i)
    (x0 : Vec F S256x3584 .i16) (x1 : Vec F S512x3584 .i8) (x2 x3 x4 x5 : Vec F S1x512 .i32) :
    out0_A_6 c i arg1 harg1 arg2 harg2 arg3 harg3 arg4 harg4 arg5 harg5 arg6 harg6 arg7 harg7 arg8 harg8 hc0 x0 x1 x2 x3 x4 x5 = tail (sums (halves x0) x1) x2 x3 x4 x5 := by
  unfold out0_A_6
  rw [View.read_writes_junk_eq_canon]
  unfold kernelRun0_A
  dsimp only
  rw [View.canon_unit_zero zero2]
  sl_unfold_words
  simp only [View.readAt_eq_ld, harg1.read_unread, harg2.read_unread, harg3.read_unread, harg4.read_unread, harg5.read_unread,
    harg6.read_unread, View.ld_unit_zero (S := S1x512) zero2, View.ld_unit_zero (S := S256x3584) zero2, View.readCov_eq_canon']
  rfl

theorem soutA (c : Dev nD) (i : grid0.Coords)
    (arg1 : Memref sig .tc .vmem S256x3584 .i16) (harg1 : arg1.IsWhole)
    (arg2 : Memref sig .tc .vmem S512x3584 .i8) (harg2 : arg2.IsWhole)
    (arg3 : Memref sig .tc .vmem S1x512 .i32) (harg3 : arg3.IsWhole)
    (arg4 : Memref sig .tc .vmem S1x512 .i32) (harg4 : arg4.IsWhole)
    (arg5 : Memref sig .tc .vmem S1x512 .i32) (harg5 : arg5.IsWhole)
    (arg6 : Memref sig .tc .vmem S1x512 .i32) (harg6 : arg6.IsWhole)
    (arg7 : Memref sig .tc .vmem S256x512 .i16) (harg7 : arg7.IsWhole)
    (arg8 : Memref sig .tc .vmem S512x3584 .bf16) (harg8 : arg8.IsWhole) (hc0 : cond0_0 i)
    (x0 : Vec F S256x3584 .i16) (x1 : Vec F S512x3584 .i8) (x2 x3 x4 x5 : Vec F S1x512 .i32) :
    sout0_A_0 c i arg1 harg1 arg2 harg2 arg3 harg3 arg4 harg4 arg5 harg5 arg6 harg6 arg7 harg7 arg8 harg8 hc0 x0 x1 x2 x3 x4 x5 = halves x0 := by
  unfold sout0_A_0
  rw [View.read_writes_junk_eq_canon]
  unfold kernelRun0_A
  dsimp only
  sl_unfold_words
  simp only [View.readAt_eq_ld, harg1.read_unread, View.ld_unit_zero (S := S256x3584) zero2]
  rfl

end Cert.KerArr

end
-- ==== Proof.KernelInt.lean ====
/- The kernel's integer side on one element: the two words of the shifted multiplier (`mulLow_eq`, `mulHigh_eq`) and the
   word of bits 32..63 of the product of the accumulator by it (`topWord_eq`), each as an integer modulo 2^32. -/
module

public import proofs.«01_k».proof.Proof.Words
public import Mathlib.Tactic.LinearCombination

@[expose] public section

namespace Cert.Fixed

open Idealize.ShloMosaic

/-- The low word of `mult · 2^(shift + 31)`. -/
def mulLow (mult shift : BitVec 32) : BitVec 32 :=
  Scalar.select (IntOp.cmpi .slt (IntOp.addi shift 31#32) 32#32)
    (IntOp.shli .vector mult (IntOp.minsi (IntOp.addi shift 31#32) 31#32)) 0#32

/-- The high word of it. -/
def mulHigh (mult shift : BitVec 32) : BitVec 32 :=
  Scalar.select (IntOp.cmpi .slt (IntOp.addi shift 31#32) 32#32)
    (IntOp.shrsi .vector (IntOp.shrui .vector mult (IntOp.subi 31#32 (IntOp.minsi (IntOp.addi shift 31#32) 31#32))) 1#32)
    (IntOp.shli .vector mult (IntOp.maxsi (IntOp.subi (IntOp.addi shift 31#32) 32#32) 0#32))

theorem mulLow_eq (M s : ℤ) (hs : -31 ≤ s) (hs' : s ≤ 15) : mulLow (W M) (W s) = W (M * 2 ^ (s + 31).toNat) := by
  unfold mulLow
  rw [show (31#32 : BitVec 32) = W 31 from rfl, show (32#32 : BitVec 32) = W 32 from rfl, show (0#32 : BitVec 32) = W 0 from rfl]
  obtain ⟨t, ht⟩ : ∃ t : ℕ, (s + 31).toNat = t := ⟨_, rfl⟩
  have ht' : s + 31 = (t : ℤ) := by omega
  rw [addi_W, ht', Int.toNat_natCast, slt_W (by omega) (by omega) (by norm_num) (by norm_num), select_ofBool]
  by_cases h : t < 32
  · rw [if_pos (by omega), minsi_W (by omega) (by omega) (by norm_num) (by norm_num), shli_W .vector _ (by omega) (by omega)]
    congr 3
    omega
  · rw [if_neg (by omega)]
    obtain ⟨d, rfl⟩ := Nat.exists_eq_add_of_le (not_lt.1 h)
    refine W_congr (-(M * 2 ^ d)) ?_
    rw [pow_add]; ring

theorem mulHigh_eq (M s : ℤ) (hM : 0 ≤ M) (hM' : M < 2 ^ 31) (hs : -31 ≤ s) (hs' : s ≤ 15) :
    mulHigh (W M) (W s) = W (M * 2 ^ (s + 31).toNat / 2 ^ 32) := by
  unfold mulHigh
  rw [show (31#32 : BitVec 32) = W 31 from rfl, show (32#32 : BitVec 32) = W 32 from rfl, show (0#32 : BitVec 32) = W 0 from rfl,
    show (1#32 : BitVec 32) = W 1 from rfl]
  obtain ⟨t, ht⟩ : ∃ t : ℕ, (s + 31).toNat = t := ⟨_, rfl⟩
  have ht' : s + 31 = (t : ℤ) := by omega
  rw [addi_W, ht', Int.toNat_natCast, slt_W (by omega) (by omega) (by norm_num) (by norm_num), select_ofBool]
  by_cases h : t < 32
  · obtain ⟨d, hd⟩ := Nat.exists_eq_add_of_le (Nat.lt_succ_iff.1 h)
    have e1 : min (t : ℤ) 31 = t := by omega
    have e2 : (31 - (t : ℤ)).toNat = d := by omega
    have e3 : M * 2 ^ t / 2 ^ 32 = M / 2 ^ d / 2 := by
      rw [Int.ediv_ediv_of_nonneg (by positivity), show (2 : ℤ) ^ 32 = (2 ^ d * 2) * 2 ^ t by
        rw [show (2 : ℤ) ^ 32 = 2 ^ 31 * 2 by norm_num, hd, pow_add]; ring]
      exact Int.mul_ediv_mul_of_pos_left _ _ (by positivity)
    have b1 : 0 ≤ M / 2 ^ d := Int.ediv_nonneg hM (by positivity)
    have b2 : M / 2 ^ d ≤ M := Int.ediv_le_self _ hM
    rw [if_pos (by omega), minsi_W (by omega) (by omega) (by norm_num) (by norm_num), e1, subi_W,
      shrui_W .vector hM (by omega) (by omega) (by omega), e2, shrsi_W .vector (by omega) (by omega) (by norm_num) (by norm_num), e3]
    rfl
  · obtain ⟨d, rfl⟩ := Nat.exists_eq_add_of_le (not_lt.1 h)
    rw [if_neg (by omega), subi_W, maxsi_W (by omega) (by omega) (by norm_num) (by norm_num), shli_W .vector _ (by omega) (by omega)]
    have e1 : (max (((32 + d : ℕ) : ℤ) - 32) 0).toNat = d := by omega
    have e2 : M * 2 ^ (32 + d) / 2 ^ 32 = M * 2 ^ d := by
      rw [pow_add, show M * (2 ^ 32 * 2 ^ d) = M * 2 ^ d * 2 ^ 32 by ring]
      exact Int.mul_ediv_cancel _ (by norm_num)
    rw [e2, e1]

/-- Bits 32..63 of the product, as the kernel builds them from 16-bit halves: `m`, `mh` the multiplier's two words, `m0`, `m1`
    the low word's halves, `a0`, `a1` the accumulator's low halves, `acc` its low word, `a2` its high word. -/
def topWord (m mh m0 m1 a0 a1 acc a2 : BitVec 32) : BitVec 32 :=
  IntOp.addi (IntOp.addi (IntOp.addi (IntOp.addi (IntOp.muli a1 m1)
    (IntOp.shrui .vector (IntOp.addi (IntOp.muli a1 m0) (IntOp.shrui .vector (IntOp.muli a0 m0) 16#32)) 16#32))
    (IntOp.shrui .vector (IntOp.addi (IntOp.muli a0 m1)
      (IntOp.andi (IntOp.addi (IntOp.muli a1 m0) (IntOp.shrui .vector (IntOp.muli a0 m0) 16#32)) 65535#32)) 16#32))
    (IntOp.muli acc mh)) (IntOp.muli a2 m)

theorem half_mul {a b : ℤ} (ha : 0 ≤ a) (ha' : a ≤ 65535) (hb : 0 ≤ b) (hb' : b ≤ 65535) : 0 ≤ a * b ∧ a * b ≤ 65535 * 65535 :=
  ⟨mul_nonneg ha hb, mul_le_mul ha' hb' hb (by norm_num)⟩

theorem topWord_eq (A m : ℤ) :
    topWord (W m) (W (m / 2 ^ 32)) (W (m % 65536)) (W (m % 2 ^ 32 / 65536)) (W (A % 65536)) (W (A / 65536 % 65536)) (W A) (W (A / 65536 / 65536))
      = W (A * m / 2 ^ 32) := by
  unfold topWord
  rw [show (16#32 : BitVec 32) = W 16 from rfl]
  obtain ⟨a0, h0⟩ : ∃ x, x = A % 65536 := ⟨_, rfl⟩
  obtain ⟨a1, h1⟩ : ∃ x, x = A / 65536 % 65536 := ⟨_, rfl⟩
  obtain ⟨a2, h2⟩ : ∃ x, x = A / 65536 / 65536 := ⟨_, rfl⟩
  obtain ⟨m0, k0⟩ : ∃ x, x = m % 65536 := ⟨_, rfl⟩
  obtain ⟨m1, k1⟩ : ∃ x, x = m % 2 ^ 32 / 65536 := ⟨_, rfl⟩
  obtain ⟨mh, k2⟩ : ∃ x, x = m / 2 ^ 32 := ⟨_, rfl⟩
  rw [← h0, ← h1, ← h2, ← k0, ← k1, ← k2]
  have hA : A = a0 + 65536 * a1 + 2 ^ 32 * a2 := by omega
  have hm : m = m0 + 65536 * m1 + 2 ^ 32 * mh := by omega
  obtain ⟨p1, p2⟩ := half_mul (a := a0) (b := m0) (by omega) (by omega) (by omega) (by omega)
  obtain ⟨q1, q2⟩ := half_mul (a := a1) (b := m0) (by omega) (by omega) (by omega) (by omega)
  obtain ⟨r1, r2⟩ := half_mul (a := a0) (b := m1) (by omega) (by omega) (by omega) (by omega)
  have e : A * m / 2 ^ 32 = (a0 * m0 + 65536 * (a1 * m0 + a0 * m1) + 2 ^ 32 * (a1 * m1)) / 2 ^ 32
      + ((a0 + 65536 * a1) * mh + a2 * m) := by
    rw [← Int.add_mul_ediv_left _ _ (by norm_num : (2 : ℤ) ^ 32 ≠ 0)]
    congr 1
    rw [hA]
    linear_combination (a0 + 65536 * a1) * hm
  rw [e]
  have hAm : A * mh = (a0 + 65536 * a1) * mh + 2 ^ 32 * (a2 * mh) := by rw [hA]; ring
  simp only [muli_W]
  rw [hAm]
  generalize a2 * m = z1
  generalize a2 * mh = z2
  generalize (a0 + 65536 * a1) * mh = z3
  generalize a0 * m0 = p00 at *
  generalize a1 * m0 = p10 at *
  generalize a0 * m1 = p01 at *
  generalize a1 * m1 = p11 at *
  rw [shrui_W .vector (z := p00) (by omega) (by omega) (by norm_num) (by norm_num), show (2 : ℤ) ^ (16 : ℤ).toNat = 65536 from rfl, addi_W, andi16,
    shrui_W .vector (z := p10 + p00 / 65536) (by omega) (by omega) (by norm_num) (by norm_num), addi_W,
    addi_W, shrui_W .vector (z := p01 + (p10 + p00 / 65536) % 65536) (by omega) (by omega) (by norm_num) (by norm_num),
    show (2 : ℤ) ^ (16 : ℤ).toNat = 65536 from rfl, addi_W, addi_W, addi_W]
  exact W_congr z2 (by omega)

end Cert.Fixed
-- ==== Proof.Limbs.lean ====
/- The reference's long arithmetic on one element: an accumulator of four 15-bit limbs times a multiplier of six,
   the product's ten columns with the rounding bit in column four, the carries, and the saturating read of the top
   five limbs. `refTail_eq` says what it computes: the product, rounded at bit 75 to the nearest integer (ties
   upwards), clipped to the int16 range. -/
module

public import proofs.«01_k».proof.Proof.Words

@[expose] public section

namespace Cert.Fixed

open Idealize.ShloMosaic

/-- Clip an integer to the int16 range. -/
def clip16 (z : ℤ) : ℤ := max (-32768) (min 32767 z)

/-- The low 15 bits of a word, and the rest of it. -/
def lo (x : BitVec 32) : BitVec 32 := IntOp.andi x 32767#32
def hi (x : BitVec 32) : BitVec 32 := IntOp.shrsi .host x 15#32

theorem lo_W (z : ℤ) : lo (W z) = W (z % 32768) := andi15 z
theorem hi_W {z : ℤ} (h1 : -2 ^ 31 ≤ z) (h2 : z < 2 ^ 31) : hi (W z) = W (z / 32768) :=
  shrsi_W .host h1 h2 (n := 15) (by norm_num) (by norm_num)

/-- A limb: 15 bits, or a small signed word. -/
def Lim (z : ℤ) : Prop := -32768 ≤ z ∧ z < 32768

/-- The halves of a product of two limbs. -/
def pl (a m : BitVec 32) : BitVec 32 := lo (IntOp.muli a m)
def ph (a m : BitVec 32) : BitVec 32 := hi (IntOp.muli a m)

theorem prod_bounds {a m : ℤ} (ha : Lim a) (hm : Lim m) : -2 ^ 30 ≤ a * m ∧ a * m ≤ 2 ^ 30 := by
  obtain ⟨a1, a2⟩ := ha; obtain ⟨m1, m2⟩ := hm
  constructor <;> nlinarith [mul_nonneg (sub_nonneg.2 a1) (sub_nonneg.2 m1), mul_nonneg (sub_nonneg.2 a2.le) (sub_nonneg.2 m2.le),
    mul_nonneg (sub_nonneg.2 a1) (sub_nonneg.2 m2.le), mul_nonneg (sub_nonneg.2 a2.le) (sub_nonneg.2 m1)]

theorem pl_W (a m : ℤ) : pl (W a) (W m) = W (a * m % 32768) := by
  unfold pl; rw [muli_W, lo_W]

theorem ph_W {a m : ℤ} (ha : Lim a) (hm : Lim m) : ph (W a) (W m) = W (a * m / 32768) := by
  have := prod_bounds ha hm
  unfold ph; rw [muli_W, hi_W (by omega) (by omega)]

/-- The saturating read of the top five limbs, given before their own low parts are taken. -/
def finish (s5 s6 s7 s8 s9 : BitVec 32) : BitVec 16 :=
  (Scalar.select
    (IntOp.ori
      (IntOp.andi (IntOp.andi (IntOp.cmpi .eq s9 0#32) (IntOp.cmpi .eq (lo s8) 0#32)) (IntOp.cmpi .eq (lo s7) 0#32))
      (IntOp.andi (IntOp.andi (IntOp.cmpi .eq s9 4294967295#32) (IntOp.cmpi .eq (lo s8) 32767#32)) (IntOp.cmpi .eq (lo s7) 32767#32)))
    (IntOp.minsi 32767#32 (IntOp.maxsi 4294934528#32
      (Scalar.select
        (IntOp.andi (IntOp.andi (IntOp.cmpi .eq s9 4294967295#32) (IntOp.cmpi .eq (lo s8) 32767#32)) (IntOp.cmpi .eq (lo s7) 32767#32))
        (IntOp.subi (IntOp.addi (lo s5) (IntOp.shli .host (lo s6) 15#32)) 1073741824#32)
        (IntOp.addi (lo s5) (IntOp.shli .host (lo s6) 15#32)))))
    (Scalar.select (IntOp.cmpi .slt s9 0#32) 4294934528#32 32767#32)).setWidth 16

theorem shl15 (z : ℤ) : IntOp.shli .host (W z) 15#32 = W (z * 32768) :=
  shli_W .host z (n := 15) (by norm_num) (by norm_num)

theorem finish_eq (s5 s6 s7 s8 s9 V : ℤ) (h9 : -2 ^ 31 ≤ s9) (h9' : s9 < 2 ^ 31)
    (hV : V = s5 % 32768 + 32768 * (s6 % 32768 + 32768 * (s7 % 32768 + 32768 * (s8 % 32768 + 32768 * s9)))) :
    finish (W s5) (W s6) (W s7) (W s8) (W s9) = BitVec.ofInt 16 (clip16 V) := by
  unfold finish
  simp only [lo_W, shl15]
  have b5 : 0 ≤ s5 % 32768 ∧ s5 % 32768 < 32768 := by omega
  have b6 : 0 ≤ s6 % 32768 ∧ s6 % 32768 < 32768 := by omega
  have b7 : 0 ≤ s7 % 32768 ∧ s7 % 32768 < 32768 := by omega
  have b8 : 0 ≤ s8 % 32768 ∧ s8 % 32768 < 32768 := by omega
  generalize s5 % 32768 = v0 at *
  generalize s6 % 32768 = v1 at *
  generalize s7 % 32768 = v2 at *
  generalize s8 % 32768 = v3 at *
  rw [show (0#32 : BitVec 32) = W 0 from rfl, show (4294967295#32 : BitVec 32) = W (-1) from rfl,
    show (32767#32 : BitVec 32) = W 32767 from rfl, show (4294934528#32 : BitVec 32) = W (-32768) from rfl,
    show (1073741824#32 : BitVec 32) = W 1073741824 from rfl]
  rw [addi_W, subi_W, eq_W h9 h9' (by norm_num) (by norm_num), eq_W h9 h9' (by norm_num) (by norm_num),
    eq_W (a := v3) (b := 0) (by omega) (by omega) (by norm_num) (by norm_num),
    eq_W (a := v2) (b := 0) (by omega) (by omega) (by norm_num) (by norm_num),
    eq_W (a := v3) (b := 32767) (by omega) (by omega) (by norm_num) (by norm_num),
    eq_W (a := v2) (b := 32767) (by omega) (by omega) (by norm_num) (by norm_num),
    slt_W h9 h9' (by norm_num) (by norm_num)]
  simp only [andi_ofBool, ori_ofBool, select_ofBool]
  unfold clip16
  by_cases hp : (s9 = 0 ∧ v3 = 0) ∧ v2 = 0
  · rw [if_pos (Or.inl hp), if_neg (by omega), maxsi_W (by norm_num) (by norm_num) (by omega) (by omega),
      minsi_W (by norm_num) (by norm_num) (by omega) (by omega), setWidth16_W]
    congr 1; omega
  · by_cases hn : (s9 = -1 ∧ v3 = 32767) ∧ v2 = 32767
    · rw [if_pos (Or.inr hn), if_pos hn, maxsi_W (by norm_num) (by norm_num) (by omega) (by omega),
        minsi_W (by norm_num) (by norm_num) (by omega) (by omega), setWidth16_W]
      congr 1; omega
    · rw [if_neg (by tauto)]
      by_cases h0 : s9 < 0
      · rw [if_pos h0, setWidth16_W]; congr 1; omega
      · rw [if_neg h0, setWidth16_W]; congr 1; omega

/-- One carry: a column plus what the column before carries. -/
def cy (c s : BitVec 32) : BitVec 32 := IntOp.addi c (hi s)

theorem cy_W {s : ℤ} (c : ℤ) (h1 : -2 ^ 31 ≤ s) (h2 : s < 2 ^ 31) : cy (W c) (W s) = W (c + s / 32768) := by
  unfold cy; rw [hi_W h1 h2, addi_W]

/-- The ten columns carried through and read. -/
def carryTail (c0 c1 c2 c3 c4 c5 c6 c7 c8 c9 : BitVec 32) : BitVec 16 :=
  finish (cy c5 (cy c4 (cy c3 (cy c2 (cy c1 c0)))))
    (cy c6 (cy c5 (cy c4 (cy c3 (cy c2 (cy c1 c0))))))
    (cy c7 (cy c6 (cy c5 (cy c4 (cy c3 (cy c2 (cy c1 c0)))))))
    (cy c8 (cy c7 (cy c6 (cy c5 (cy c4 (cy c3 (cy c2 (cy c1 c0))))))))
    (cy c9 (cy c8 (cy c7 (cy c6 (cy c5 (cy c4 (cy c3 (cy c2 (cy c1 c0)))))))))

/-- A column's bound. -/
def Col (z : ℤ) : Prop := -1048576 ≤ z ∧ z < 1048576

theorem carryTail_eq (c0 c1 c2 c3 c4 c5 c6 c7 c8 c9 : ℤ) (h0 : Col c0) (h1 : Col c1) (h2 : Col c2) (h3 : Col c3)
    (h4 : Col c4) (h5 : Col c5) (h6 : Col c6) (h7 : Col c7) (h8 : Col c8) (h9 : Col c9) :
    carryTail (W c0) (W c1) (W c2) (W c3) (W c4) (W c5) (W c6) (W c7) (W c8) (W c9)
      = BitVec.ofInt 16 (clip16 ((c0 + 32768 * (c1 + 32768 * (c2 + 32768 * (c3 + 32768 * (c4 + 32768 * (c5 + 32768 *
          (c6 + 32768 * (c7 + 32768 * (c8 + 32768 * c9))))))))) / 2 ^ 75)) := by
  unfold Col at *
  unfold carryTail
  rw [cy_W c1 (s := c0) (by omega) (by omega)]
  have e0 : ∀ x, (c0 + 32768 * x) / 32768 = c0 / 32768 + x := fun x => by omega
  obtain ⟨s1, hs1⟩ : ∃ s, s = c1 + c0 / 32768 := ⟨_, rfl⟩
  rw [← hs1, cy_W c2 (s := s1) (by omega) (by omega)]
  obtain ⟨s2, hs2⟩ : ∃ s, s = c2 + s1 / 32768 := ⟨_, rfl⟩
  rw [← hs2, cy_W c3 (s := s2) (by omega) (by omega)]
  obtain ⟨s3, hs3⟩ : ∃ s, s = c3 + s2 / 32768 := ⟨_, rfl⟩
  rw [← hs3, cy_W c4 (s := s3) (by omega) (by omega)]
  obtain ⟨s4, hs4⟩ : ∃ s, s = c4 + s3 / 32768 := ⟨_, rfl⟩
  rw [← hs4, cy_W c5 (s := s4) (by omega) (by omega)]
  obtain ⟨s5, hs5⟩ : ∃ s, s = c5 + s4 / 32768 := ⟨_, rfl⟩
  rw [← hs5, cy_W c6 (s := s5) (by omega) (by omega)]
  obtain ⟨s6, hs6⟩ : ∃ s, s = c6 + s5 / 32768 := ⟨_, rfl⟩
  rw [← hs6, cy_W c7 (s := s6) (by omega) (by omega)]
  obtain ⟨s7, hs7⟩ : ∃ s, s = c7 + s6 / 32768 := ⟨_, rfl⟩
  rw [← hs7, cy_W c8 (s := s7) (by omega) (by omega)]
  obtain ⟨s8, hs8⟩ : ∃ s, s = c8 + s7 / 32768 := ⟨_, rfl⟩
  rw [← hs8, cy_W c9 (s := s8) (by omega) (by omega)]
  obtain ⟨s9, hs9⟩ : ∃ s, s = c9 + s8 / 32768 := ⟨_, rfl⟩
  rw [← hs9]
  refine finish_eq s5 s6 s7 s8 s9 _ (by omega) (by omega) ?_
  have step : ∀ a x : ℤ, (a + 32768 * x) / 32768 = a / 32768 + x := fun a x => by omega
  have dd : ∀ z : ℤ, z / 2 ^ 75 = z / 32768 / 32768 / 32768 / 32768 / 32768 := fun z => by
    rw [Int.ediv_ediv_of_nonneg (by norm_num), Int.ediv_ediv_of_nonneg (by norm_num), Int.ediv_ediv_of_nonneg (by norm_num),
      Int.ediv_ediv_of_nonneg (by norm_num)]
    norm_num
  have re : ∀ a c x : ℤ, a + (c + x) = (c + a) + x := fun a c x => by ring
  rw [dd, step, re, ← hs1, step, re, ← hs2, step, re, ← hs3, step, re, ← hs4, step, re, ← hs5]
  omega

/-- The columns of the product of the limbs, with the rounding bit in column four, carried and read. -/
def refTail (a0 a1 a2 a3 m0 m1 m2 m3 m4 m5 : BitVec 32) : BitVec 16 :=
  carryTail (pl a0 m0)
    (IntOp.addi (IntOp.addi (ph a0 m0) (pl a0 m1)) (pl a1 m0))
    (IntOp.addi (IntOp.addi (IntOp.addi (IntOp.addi (ph a0 m1) (pl a0 m2)) (ph a1 m0)) (pl a1 m1)) (pl a2 m0))
    (IntOp.addi (IntOp.addi (IntOp.addi (IntOp.addi (IntOp.addi (IntOp.addi (ph a0 m2) (pl a0 m3)) (ph a1 m1)) (pl a1 m2)) (ph a2 m0)) (pl a2 m1)) (pl a3 m0))
    (IntOp.addi (IntOp.addi (IntOp.addi (IntOp.addi (IntOp.addi (IntOp.addi (IntOp.addi (IntOp.addi (ph a0 m3) (pl a0 m4)) (ph a1 m2)) (pl a1 m3)) (ph a2 m1)) (pl a2 m2)) (ph a3 m0)) (pl a3 m1)) 16384#32)
    (IntOp.addi (IntOp.addi (IntOp.addi (IntOp.addi (IntOp.addi (IntOp.addi (IntOp.addi (ph a0 m4) (pl a0 m5)) (ph a1 m3)) (pl a1 m4)) (ph a2 m2)) (pl a2 m3)) (ph a3 m1)) (pl a3 m2))
    (IntOp.addi (IntOp.addi (IntOp.addi (IntOp.addi (IntOp.addi (IntOp.addi (ph a0 m5) (ph a1 m4)) (pl a1 m5)) (ph a2 m3)) (pl a2 m4)) (ph a3 m2)) (pl a3 m3))
    (IntOp.addi (IntOp.addi (IntOp.addi (IntOp.addi (ph a1 m5) (ph a2 m4)) (pl a2 m5)) (ph a3 m3)) (pl a3 m4))
    (IntOp.addi (IntOp.addi (ph a2 m5) (ph a3 m4)) (pl a3 m5))
    (ph a3 m5)

theorem half_bounds {a m : ℤ} (ha : Lim a) (hm : Lim m) :
    -32768 ≤ a * m / 32768 ∧ a * m / 32768 ≤ 32768 ∧ 0 ≤ a * m % 32768 ∧ a * m % 32768 < 32768
      ∧ a * m = a * m % 32768 + 32768 * (a * m / 32768) := by
  have := prod_bounds ha hm
  generalize a * m = p at *
  omega

theorem refTail_eq (a0 a1 a2 a3 m0 m1 m2 m3 m4 m5 : ℤ) (h0 : Lim a0) (h1 : Lim a1) (h2 : Lim a2) (h3 : Lim a3)
    (k0 : Lim m0) (k1 : Lim m1) (k2 : Lim m2) (k3 : Lim m3) (k4 : Lim m4) (k5 : Lim m5) :
    refTail (W a0) (W a1) (W a2) (W a3) (W m0) (W m1) (W m2) (W m3) (W m4) (W m5)
      = BitVec.ofInt 16 (clip16 (((a0 + 2 ^ 15 * a1 + 2 ^ 30 * a2 + 2 ^ 45 * a3)
          * (m0 + 2 ^ 15 * m1 + 2 ^ 30 * m2 + 2 ^ 45 * m3 + 2 ^ 60 * m4 + 2 ^ 75 * m5) + 2 ^ 74) / 2 ^ 75)) := by
  unfold refTail
  simp only [pl_W, ph_W h0 k0, ph_W h0 k1, ph_W h0 k2, ph_W h0 k3, ph_W h0 k4, ph_W h0 k5,
    ph_W h1 k0, ph_W h1 k1, ph_W h1 k2, ph_W h1 k3, ph_W h1 k4, ph_W h1 k5,
    ph_W h2 k0, ph_W h2 k1, ph_W h2 k2, ph_W h2 k3, ph_W h2 k4, ph_W h2 k5,
    ph_W h3 k0, ph_W h3 k1, ph_W h3 k2, ph_W h3 k3, ph_W h3 k4, ph_W h3 k5]
  rw [show (16384#32 : BitVec 32) = W 16384 from rfl]
  simp only [addi_W]
  obtain ⟨a00, b00, c00, d00, e00⟩ := half_bounds h0 k0
  obtain ⟨a01, b01, c01, d01, e01⟩ := half_bounds h0 k1
  obtain ⟨a02, b02, c02, d02, e02⟩ := half_bounds h0 k2
  obtain ⟨a03, b03, c03, d03, e03⟩ := half_bounds h0 k3
  obtain ⟨a04, b04, c04, d04, e04⟩ := half_bounds h0 k4
  obtain ⟨a05, b05, c05, d05, e05⟩ := half_bounds h0 k5
  obtain ⟨a10, b10, c10, d10, e10⟩ := half_bounds h1 k0
  obtain ⟨a11, b11, c11, d11, e11⟩ := half_bounds h1 k1
  obtain ⟨a12, b12, c12, d12, e12⟩ := half_bounds h1 k2
  obtain ⟨a13, b13, c13, d13, e13⟩ := half_bounds h1 k3
  obtain ⟨a14, b14, c14, d14, e14⟩ := half_bounds h1 k4
  obtain ⟨a15, b15, c15, d15, e15⟩ := half_bounds h1 k5
  obtain ⟨a20, b20, c20, d20, e20⟩ := half_bounds h2 k0
  obtain ⟨a21, b21, c21, d21, e21⟩ := half_bounds h2 k1
  obtain ⟨a22, b22, c22, d22, e22⟩ := half_bounds h2 k2
  obtain ⟨a23, b23, c23, d23, e23⟩ := half_bounds h2 k3
  obtain ⟨a24, b24, c24, d24, e24⟩ := half_bounds h2 k4
  obtain ⟨a25, b25, c25, d25, e25⟩ := half_bounds h2 k5
  obtain ⟨a30, b30, c30, d30, e30⟩ := half_bounds h3 k0
  obtain ⟨a31, b31, c31, d31, e31⟩ := half_bounds h3 k1
  obtain ⟨a32, b32, c32, d32, e32⟩ := half_bounds h3 k2
  obtain ⟨a33, b33, c33, d33, e33⟩ := half_bounds h3 k3
  obtain ⟨a34, b34, c34, d34, e34⟩ := half_bounds h3 k4
  obtain ⟨a35, b35, c35, d35, e35⟩ := half_bounds h3 k5
  have ex : (a0 + 2 ^ 15 * a1 + 2 ^ 30 * a2 + 2 ^ 45 * a3)
          * (m0 + 2 ^ 15 * m1 + 2 ^ 30 * m2 + 2 ^ 45 * m3 + 2 ^ 60 * m4 + 2 ^ 75 * m5)
      = a0 * m0 + 2 ^ 15 * (a0 * m1 + a1 * m0) + 2 ^ 30 * (a0 * m2 + a1 * m1 + a2 * m0)
        + 2 ^ 45 * (a0 * m3 + a1 * m2 + a2 * m1 + a3 * m0) + 2 ^ 60 * (a0 * m4 + a1 * m3 + a2 * m2 + a3 * m1)
        + 2 ^ 75 * (a0 * m5 + a1 * m4 + a2 * m3 + a3 * m2) + 2 ^ 90 * (a1 * m5 + a2 * m4 + a3 * m3)
        + 2 ^ 105 * (a2 * m5 + a3 * m4) + 2 ^ 120 * (a3 * m5) := by ring
  rw [ex]
  rw [carryTail_eq]
  · congr 3
    linarith
  all_goals (constructor <;> linarith)

end Cert.Fixed
-- ==== Proof.RefWord.lean ====
/- One element of the reference: the six limbs of the multiplier shifted left by 44 + shift (`mulLimb_eq`), the four limbs
   of the accumulator (`accLimbs`), and the word the reference leaves there (`refWord_eq`), which is the rounded and
   clipped product `requant`. -/
module

public import proofs.«01_k».proof.Proof.Limbs

@[expose] public section

namespace Cert.Fixed

open Idealize.ShloMosaic

/-- The requantized value: `acc · mult · 2^(shift + 31) / 2^62`, rounded to the nearest integer with ties upwards and
    clipped to the int16 range. -/
def requant (acc mult : ℤ) (s : ℕ) : ℤ := clip16 ((acc * (mult * 2 ^ s) + 2 ^ 61) / 2 ^ 62)

/-- Limb number `c / 15` of `mult · 2^(44 + shift)`, as the reference cuts it out. -/
def mulLimb (c mult shift : BitVec 32) : BitVec 32 :=
  Scalar.select (IntOp.cmpi .sge (IntOp.subi c (IntOp.addi 44#32 shift)) 0#32)
    (IntOp.andi (IntOp.shrsi .host mult (IntOp.minsi 31#32 (IntOp.maxsi 0#32 (IntOp.subi c (IntOp.addi 44#32 shift))))) 32767#32)
    (IntOp.andi (IntOp.shli .host mult (IntOp.minsi 15#32 (IntOp.maxsi 0#32 (-(IntOp.subi c (IntOp.addi 44#32 shift)))))) 32767#32)

theorem neg_W (a : ℤ) : -(W a) = W (-a) := by
  have : IntOp.subi (W 0) (W a) = W (0 - a) := subi_W 0 a
  rw [zero_sub] at this
  rw [← this]; exact (BitVec.zero_sub (W a)).symm

theorem mul_pow_mod (M : ℤ) (n : ℕ) (h : 15 ≤ n) : M * 2 ^ n % 32768 = 0 := by
  obtain ⟨k, rfl⟩ := Nat.exists_eq_add_of_le h
  rw [pow_add, show M * (2 ^ 15 * 2 ^ k) = M * 2 ^ k * 32768 by ring]
  exact Int.mul_emod_left _ _

theorem mulLimb_eq (c : ℕ) (hc : c ≤ 75) (M s : ℤ) (hM : 0 ≤ M) (hM' : M < 2 ^ 31) (hs : -31 ≤ s) (hs' : s ≤ 15) :
    mulLimb (W c) (W M) (W s) = W (M * 2 ^ (44 + s).toNat / 2 ^ c % 32768) := by
  unfold mulLimb
  rw [show (44#32 : BitVec 32) = W 44 from rfl, show (0#32 : BitVec 32) = W 0 from rfl, show (31#32 : BitVec 32) = W 31 from rfl,
    show (15#32 : BitVec 32) = W 15 from rfl]
  obtain ⟨u, hu⟩ : ∃ u : ℕ, (44 + s).toNat = u := ⟨_, rfl⟩
  have hu' : 44 + s = (u : ℤ) := by omega
  rw [addi_W, subi_W, neg_W, hu, hu', sge_W (by omega) (by omega) (by norm_num) (by norm_num), select_ofBool]
  by_cases h : u ≤ c
  · rw [if_pos (by omega), maxsi_W (by norm_num) (by norm_num) (by omega) (by omega), minsi_W (by norm_num) (by norm_num) (by omega) (by omega),
      shrsi_W .host (by omega) hM' (by omega) (by omega), andi15]
    obtain ⟨d, rfl⟩ := Nat.exists_eq_add_of_le h
    have e : M * 2 ^ u / 2 ^ (u + d) = M / 2 ^ d := by
      rw [pow_add, mul_comm ((2 : ℤ) ^ u)]
      exact Int.mul_ediv_mul_of_pos_left _ _ (by positivity)
    rw [e]
    congr 2
    by_cases hd : d ≤ 31
    · congr 2; omega
    · have hp : (2 : ℤ) ^ 31 ≤ 2 ^ d := pow_le_pow_right₀ (by norm_num) (by omega)
      rw [Int.ediv_eq_zero_of_lt hM (lt_of_lt_of_le hM' hp)]
      have : (min 31 (max 0 (((u + d : ℕ) : ℤ) - (u : ℤ)))).toNat = 31 := by omega
      have h2 : (min 31 (max (0 : ℤ) (((u + d : ℕ) : ℤ) - (u : ℤ)))) = 31 := by omega
      first
        | rw [h2]; exact Int.ediv_eq_zero_of_lt hM hM'
        | (rw [show (max 0 (((u + d : ℕ) : ℤ) - (u : ℤ)) ⊓ 31) = 31 by omega]; exact Int.ediv_eq_zero_of_lt hM hM')
  · rw [if_neg (by omega), maxsi_W (by norm_num) (by norm_num) (by omega) (by omega), minsi_W (by norm_num) (by norm_num) (by omega) (by omega),
      shli_W .host _ (by omega) (by omega), andi15]
    obtain ⟨d, rfl⟩ := Nat.exists_eq_add_of_le (le_of_not_ge h)
    have e : M * 2 ^ (c + d) / 2 ^ c = M * 2 ^ d := by
      rw [pow_add, show M * (2 ^ c * 2 ^ d) = M * 2 ^ d * 2 ^ c by ring]
      exact Int.mul_ediv_cancel _ (by positivity)
    rw [e]
    congr 1
    by_cases hd : d ≤ 15
    · congr 3; omega
    · rw [mul_pow_mod M d (by omega), mul_pow_mod M _ (by omega)]

/-- The six limbs put together again. -/
theorem limbs_sum (Z : ℤ) (h : 0 ≤ Z) (h' : Z < 2 ^ 90) :
    Z / 2 ^ 0 % 32768 + 2 ^ 15 * (Z / 2 ^ 15 % 32768) + 2 ^ 30 * (Z / 2 ^ 30 % 32768) + 2 ^ 45 * (Z / 2 ^ 45 % 32768)
      + 2 ^ 60 * (Z / 2 ^ 60 % 32768) + 2 ^ 75 * (Z / 2 ^ 75 % 32768) = Z := by
  have e2 : Z / 2 ^ 30 = Z / 32768 / 32768 := by rw [Int.ediv_ediv_of_nonneg (by norm_num)]; norm_num
  have e3 : Z / 2 ^ 45 = Z / 32768 / 32768 / 32768 := by
    rw [Int.ediv_ediv_of_nonneg (by norm_num), Int.ediv_ediv_of_nonneg (by norm_num)]; norm_num
  have e4 : Z / 2 ^ 60 = Z / 32768 / 32768 / 32768 / 32768 := by
    rw [Int.ediv_ediv_of_nonneg (by norm_num), Int.ediv_ediv_of_nonneg (by norm_num), Int.ediv_ediv_of_nonneg (by norm_num)]; norm_num
  have e5 : Z / 2 ^ 75 = Z / 32768 / 32768 / 32768 / 32768 / 32768 := by
    rw [Int.ediv_ediv_of_nonneg (by norm_num), Int.ediv_ediv_of_nonneg (by norm_num), Int.ediv_ediv_of_nonneg (by norm_num),
      Int.ediv_ediv_of_nonneg (by norm_num)]
    norm_num
  rw [e2, e3, e4, e5, pow_zero, Int.ediv_one]
  generalize hq1 : Z / 2 ^ 15 = q1
  rw [show (2 : ℤ) ^ 15 = 32768 by norm_num] at hq1
  rw [hq1]
  omega

/-- The four limbs of the accumulator, from the two partial products and the two halves of the bias. -/
def acc0 (ph pl blo : BitVec 32) : BitVec 32 :=
  IntOp.addi (IntOp.addi (IntOp.muli 256#32 (lo ph)) (lo pl)) (lo blo)
def acc1 (ph pl blo : BitVec 32) : BitVec 32 :=
  IntOp.addi (IntOp.addi (IntOp.addi (IntOp.muli 256#32 (hi ph)) (hi pl)) (IntOp.andi (IntOp.shrui .host blo 15#32) 32767#32))
    (hi (acc0 ph pl blo))
def acc2 (ph pl blo bhi : BitVec 32) : BitVec 32 :=
  IntOp.addi (IntOp.addi (IntOp.shrui .host blo 30#32) (IntOp.shli .host (IntOp.andi bhi 8191#32) 2#32)) (hi (acc1 ph pl blo))
def acc3 (ph pl blo bhi : BitVec 32) : BitVec 32 :=
  IntOp.addi (IntOp.shrsi .host bhi 13#32) (hi (acc2 ph pl blo bhi))

/-- The word the reference leaves at one element. -/
def refWord (ph pl blo bhi mult shift : BitVec 32) : BitVec 16 :=
  refTail (lo (acc0 ph pl blo)) (lo (acc1 ph pl blo)) (lo (acc2 ph pl blo bhi)) (acc3 ph pl blo bhi)
    (mulLimb 0#32 mult shift) (mulLimb 15#32 mult shift) (mulLimb 30#32 mult shift) (mulLimb 45#32 mult shift)
    (mulLimb 60#32 mult shift) (mulLimb 75#32 mult shift)

theorem refWord_eq (h l B H M s : ℤ) (hh : -2 ^ 26 ≤ h) (hh' : h ≤ 2 ^ 26) (hl : -2 ^ 27 ≤ l) (hl' : l ≤ 2 ^ 27)
    (hB : 0 ≤ B) (hB' : B < 2 ^ 32) (hH : -32764 ≤ H) (hH' : H ≤ 32763) (hM : 0 ≤ M) (hM' : M < 2 ^ 31)
    (hs : -31 ≤ s) (hs' : s ≤ 15) :
    refWord (W h) (W l) (W B) (W H) (W M) (W s)
      = BitVec.ofInt 16 (requant (256 * h + l + B + 2 ^ 32 * H) M (s + 31).toNat) := by
  have L : ∀ z : ℤ, Lim (z % 32768) := fun z => by constructor <;> omega
  obtain ⟨x0, hx0⟩ : ∃ x, x = 256 * (h % 32768) + l % 32768 + B % 32768 := ⟨_, rfl⟩
  obtain ⟨x1, hx1⟩ : ∃ x, x = 256 * (h / 32768) + l / 32768 + B / 32768 % 32768 + x0 / 32768 := ⟨_, rfl⟩
  obtain ⟨x2, hx2⟩ : ∃ x, x = B / 1073741824 + H % 8192 * 4 + x1 / 32768 := ⟨_, rfl⟩
  obtain ⟨x3, hx3⟩ : ∃ x, x = H / 8192 + x2 / 32768 := ⟨_, rfl⟩
  have e0 : acc0 (W h) (W l) (W B) = W x0 := by
    unfold acc0
    rw [show (256#32 : BitVec 32) = W 256 from rfl, lo_W, lo_W, lo_W, muli_W, addi_W, addi_W, hx0]
  have e1 : acc1 (W h) (W l) (W B) = W x1 := by
    unfold acc1
    rw [e0, show (256#32 : BitVec 32) = W 256 from rfl, hi_W (by omega) (by omega), hi_W (by omega) (by omega), hi_W (by omega) (by omega),
      show (15#32 : BitVec 32) = W 15 from rfl, shrui_W .host hB hB' (by norm_num) (by norm_num), andi15, muli_W, addi_W, addi_W, addi_W, hx1]
    congr 1
  have e2 : acc2 (W h) (W l) (W B) (W H) = W x2 := by
    unfold acc2
    rw [e1, hi_W (by omega) (by omega), show (30#32 : BitVec 32) = W 30 from rfl, show (2#32 : BitVec 32) = W 2 from rfl,
      shrui_W .host hB hB' (by norm_num) (by norm_num), andi13, shli_W .host _ (by norm_num) (by norm_num), addi_W, addi_W, hx2]
    congr 1
  have e3 : acc3 (W h) (W l) (W B) (W H) = W x3 := by
    unfold acc3
    rw [e2, hi_W (by omega) (by omega), show (13#32 : BitVec 32) = W 13 from rfl,
      shrsi_W .host (by omega) (by omega) (by norm_num) (by norm_num), addi_W, hx3]
    congr 1
  unfold refWord
  have m0 := mulLimb_eq 0 (by norm_num) M s hM hM' hs hs'
  have m1 := mulLimb_eq 15 (by norm_num) M s hM hM' hs hs'
  have m2 := mulLimb_eq 30 (by norm_num) M s hM hM' hs hs'
  have m3 := mulLimb_eq 45 (by norm_num) M s hM hM' hs hs'
  have m4 := mulLimb_eq 60 (by norm_num) M s hM hM' hs hs'
  have m5 := mulLimb_eq 75 (by norm_num) M s hM hM' hs hs'
  obtain ⟨u, hu⟩ : ∃ u : ℕ, (s + 31).toNat = u := ⟨_, rfl⟩
  have hu46 : u ≤ 46 := by omega
  have hu13 : (44 + s).toNat = u + 13 := by omega
  rw [hu13] at m0 m1 m2 m3 m4 m5
  have hZ : 0 ≤ M * 2 ^ (u + 13) := by positivity
  have hZ' : M * 2 ^ (u + 13) < 2 ^ 90 := by
    have : (2 : ℤ) ^ (u + 13) ≤ 2 ^ 59 := pow_le_pow_right₀ (by norm_num) (by omega)
    nlinarith
  have hA : x0 % 32768 + 2 ^ 15 * (x1 % 32768) + 2 ^ 30 * (x2 % 32768) + 2 ^ 45 * x3 = 256 * h + l + B + 2 ^ 32 * H := by omega
  rw [show (0#32 : BitVec 32) = W ((0 : ℕ) : ℤ) from rfl, show (15#32 : BitVec 32) = W ((15 : ℕ) : ℤ) from rfl,
    show (30#32 : BitVec 32) = W ((30 : ℕ) : ℤ) from rfl, show (45#32 : BitVec 32) = W ((45 : ℕ) : ℤ) from rfl,
    show (60#32 : BitVec 32) = W ((60 : ℕ) : ℤ) from rfl, show (75#32 : BitVec 32) = W ((75 : ℕ) : ℤ) from rfl,
    m0, m1, m2, m3, m4, m5, e0, e1, e2, e3, lo_W, lo_W, lo_W,
    refTail_eq _ _ _ _ _ _ _ _ _ _ (L _) (L _) (L _) (by constructor <;> omega) (L _) (L _) (L _) (L _) (L _) (L _),
    limbs_sum _ hZ hZ', hA, hu]
  unfold requant
  congr 2
  rw [show (256 * h + l + B + 2 ^ 32 * H) * (M * 2 ^ (u + 13)) + 2 ^ 74
      = ((256 * h + l + B + 2 ^ 32 * H) * (M * 2 ^ u) + 2 ^ 61) * 2 ^ 13 by rw [pow_add]; ring,
    show (2 : ℤ) ^ 75 = 2 ^ 62 * 2 ^ 13 by norm_num]
  exact Int.mul_ediv_mul_of_pos_left _ _ (by norm_num)

end Cert.Fixed
-- ==== Proof.KernelReal.lean ====
/- The kernel's float side on one element, over the extended reals: the power of two it builds from an exponent field, the
   scaled multiplier, and the last step (`lastStep_eq`), which rounds the clamped product to an integer and then corrects it
   by the exact low bits, so that what is left is the product rounded half up and clipped. -/
module

public import proofs.«01_k».proof.Proof.RefWord
public import Idealize.ShloMosaic.PureOps.Ideal
public import Mathlib.Tactic.NormNum.Pow
public import Mathlib.Tactic.FieldSimp

@[expose] public section

namespace Cert.Fixed

open Idealize.ShloMosaic

/-- An f32 whose exponent field is `z` and whose fraction is zero. -/
theorem ofBits_pow (z : ℕ) (h1 : 1 ≤ z) (h2 : z ≤ 254) :
    Ideal.ofBits .f32 (W (z * 2 ^ 23)) = (((2 : ℝ) ^ ((z : ℤ) - 127) : ℝ) : EReal) := by
  have hn : (W ((z : ℤ) * 2 ^ 23)).toNat = z * 2 ^ 23 := by rw [toNat_W]; omega
  have e1 : ((W ((z : ℤ) * 2 ^ 23)).extractLsb' 23 8).toNat = z := by
    rw [BitVec.extractLsb'_toNat, hn, Nat.shiftRight_eq_div_pow]; omega
  have e0 : ((W ((z : ℤ) * 2 ^ 23)).extractLsb' 0 23).toNat = 0 := by
    rw [BitVec.extractLsb'_toNat, hn, Nat.shiftRight_eq_div_pow]; omega
  have e2 : (W ((z : ℤ) * 2 ^ 23)).extractLsb' 31 1 = 0#1 := by
    apply BitVec.eq_of_toNat_eq
    rw [BitVec.extractLsb'_toNat, hn, Nat.shiftRight_eq_div_pow]
    show _ = 0
    omega
  show Ideal.ieee 8 23 (W ((z : ℤ) * 2 ^ 23)) = _
  unfold Ideal.ieee
  simp only [show 8 + 23 = 31 from rfl, e0, e1, e2]
  rw [if_neg (by omega), if_neg (by omega)]
  congr 1
  simp
  rw [show (z : ℤ) - 127 - 23 = ((z : ℤ) - 127) + (-23 : ℤ) by ring, zpow_add₀ (by norm_num)]
  norm_num
  field_simp

theorem c_65536 : Ideal.ofBits .f32 1199570944#32 = ((65536 : ℝ) : EReal) := by
  simp [Ideal.ofBits, Ideal.ieee, -EReal.coe_mul]; norm_num
theorem c_hi : Ideal.ofBits .f32 1191181824#32 = ((32767 : ℝ) : EReal) := by
  simp [Ideal.ofBits, Ideal.ieee, -EReal.coe_mul]; norm_num
theorem c_lo : Ideal.ofBits .f32 3338665856#32 = ((-(131071 / 4) : ℝ) : EReal) := by
  simp [Ideal.ofBits, Ideal.ieee, -EReal.coe_mul]; norm_num

theorem fptosi_int (n : ℤ) (h1 : -2 ^ 31 ≤ n) (h2 : n < 2 ^ 31) : Ideal.fptosi 32 ((n : ℝ) : EReal) = W n := by
  unfold Ideal.fptosi
  rw [Ideal.toIntClamped_coe, Int.floor_intCast, Int.ceil_intCast, ite_self]
  show W _ = W n
  congr 1
  norm_num
  omega

/-- Rounding to nearest, ties to even, moves by at most a half. -/
theorem rhe_bounds (r : ℝ) : (Ideal.roundHalfEven r : ℝ) - 1 / 2 ≤ r ∧ r ≤ (Ideal.roundHalfEven r : ℝ) + 1 / 2 := by
  have h1 := Int.floor_le r
  have h2 := Int.lt_floor_add_one r
  unfold Ideal.roundHalfEven
  simp only
  split_ifs <;> (push_cast; constructor <;> linarith)

theorem rhe_int (n : ℤ) : Ideal.roundHalfEven (n : ℝ) = n := by
  unfold Ideal.roundHalfEven
  simp

/-- The last step: `q` the exact product over 2^62, `T` bits 32..63 of the product. -/
noncomputable def lastStep (q : EReal) (T : BitVec 32) : BitVec 16 :=
  BitVec.setWidth 16
    (if q = min (max q (Ideal.ofBits .f32 3338665856#32)) (Ideal.ofBits .f32 1191181824#32) then
      IntOp.addi
        (Ideal.fptosi 32 (Ideal.liftRound Ideal.roundHalfEven (min (max q (Ideal.ofBits .f32 3338665856#32)) (Ideal.ofBits .f32 1191181824#32))))
        (IntOp.shrsi .vector (IntOp.addi (IntOp.subi T (IntOp.shli .vector
          (Ideal.fptosi 32 (Ideal.liftRound Ideal.roundHalfEven (min (max q (Ideal.ofBits .f32 3338665856#32)) (Ideal.ofBits .f32 1191181824#32))))
          30#32)) 536870912#32) 30#32)
    else
      Ideal.fptosi 32 (Ideal.liftRound Ideal.roundHalfEven (min (max q (Ideal.ofBits .f32 3338665856#32)) (Ideal.ofBits .f32 1191181824#32))))

theorem lastStep_eq (Q : ℤ) :
    lastStep (((Q : ℝ) / 2 ^ 62 : ℝ) : EReal) (W (Q / 2 ^ 32)) = BitVec.ofInt 16 (clip16 ((Q + 2 ^ 61) / 2 ^ 62)) := by
  unfold lastStep
  rw [c_lo, c_hi, ← EReal.coe_strictMono.monotone.map_max, ← EReal.coe_strictMono.monotone.map_min, Ideal.liftRound_coe]
  obtain ⟨q, hq⟩ : ∃ q : ℝ, q = (Q : ℝ) / 2 ^ 62 := ⟨_, rfl⟩
  have hQ : (Q : ℝ) = q * 2 ^ 62 := by rw [hq]; field_simp
  rw [← hq]
  rcases lt_or_ge q (-(131071 / 4)) with h | h
  · have e : min (max q (-(131071 / 4))) 32767 = (-(131071 / 4) : ℝ) := by
      rw [max_eq_right h.le, min_eq_left (by norm_num)]
    have er : Ideal.roundHalfEven (-(131071 / 4) : ℝ) = -32768 := by
      have : ⌊(-(131071 / 4) : ℝ)⌋ = -32768 := by rw [Int.floor_eq_iff]; norm_num
      unfold Ideal.roundHalfEven
      rw [this]; norm_num
    rw [e, er, if_neg (fun e => h.ne (EReal.coe_eq_coe_iff.1 e)), fptosi_int _ (by norm_num) (by norm_num), setWidth16_W]
    have hb : (Q : ℝ) < ((-(131071 * 2 ^ 60) : ℤ) : ℝ) := by rw [hQ]; push_cast; linarith
    have hb' : Q < -(131071 * 2 ^ 60) := by exact_mod_cast hb
    unfold clip16
    congr 1
    omega
  · rcases lt_or_ge 32767 q with h' | h'
    · have e : min (max q (-(131071 / 4))) 32767 = ((32767 : ℤ) : ℝ) := by
        rw [max_eq_left h, min_eq_right h'.le]; norm_num
      rw [e, rhe_int, if_neg (fun e => h'.ne' (by simpa using EReal.coe_eq_coe_iff.1 e)), fptosi_int _ (by norm_num) (by norm_num), setWidth16_W]
      have hb : ((32767 * 2 ^ 62 : ℤ) : ℝ) < (Q : ℝ) := by rw [hQ]; push_cast; linarith
      have hb' : 32767 * 2 ^ 62 < Q := by exact_mod_cast hb
      unfold clip16
      congr 1
      omega
    · have e : min (max q (-(131071 / 4))) 32767 = q := by rw [max_eq_left h, min_eq_left h']
      obtain ⟨b1, b2⟩ := rhe_bounds q
      rw [e, if_pos rfl]
      obtain ⟨v, hv⟩ : ∃ v, v = Ideal.roundHalfEven q := ⟨_, rfl⟩
      rw [← hv] at b1 b2 ⊢
      have v1 : ((-32769 : ℤ) : ℝ) < (v : ℝ) := by push_cast; linarith
      have v2 : (v : ℝ) < ((32768 : ℤ) : ℝ) := by push_cast; linarith
      have v1' : -32769 < v := by exact_mod_cast v1
      have v2' : v < 32768 := by exact_mod_cast v2
      have c1 : (((2 * v - 1) * 2 ^ 61 : ℤ) : ℝ) ≤ (Q : ℝ) := by rw [hQ]; push_cast; linarith
      have c2 : (Q : ℝ) ≤ (((2 * v + 1) * 2 ^ 61 : ℤ) : ℝ) := by rw [hQ]; push_cast; linarith
      have c1' : (2 * v - 1) * 2 ^ 61 ≤ Q := by exact_mod_cast c1
      have c2' : Q ≤ (2 * v + 1) * 2 ^ 61 := by exact_mod_cast c2
      rw [fptosi_int _ (by omega) (by omega), show (30#32 : BitVec 32) = W 30 from rfl, show (536870912#32 : BitVec 32) = W 536870912 from rfl,
        shli_W .vector _ (by norm_num) (by norm_num), show (2 : ℤ) ^ (30 : ℤ).toNat = 1073741824 from rfl, subi_W, addi_W,
        shrsi_W .vector (by omega) (by omega) (by norm_num) (by norm_num), show (2 : ℤ) ^ (30 : ℤ).toNat = 1073741824 from rfl, addi_W, setWidth16_W]
      have d1 : v = -32768 → -(131071 * 2 ^ 60) ≤ Q := by
        intro _
        have : ((-(131071 * 2 ^ 60) : ℤ) : ℝ) ≤ (Q : ℝ) := by rw [hQ]; push_cast; linarith
        exact_mod_cast this
      have d2 : Q ≤ 32767 * 2 ^ 62 := by
        have : (Q : ℝ) ≤ ((32767 * 2 ^ 62 : ℤ) : ℝ) := by rw [hQ]; push_cast; linarith
        exact_mod_cast this
      unfold clip16
      congr 1
      omega

end Cert.Fixed
-- ==== Proof.KernelWord.lean ====
/- The kernel's result word on one element (`kernelWord`), from the two chunk sums, the two halves of the bias, the multiplier
   and the shift: it is the exact product rounded half up at bit 62 and clipped to sixteen bits (`kernelWord_eq`). -/
module

public import proofs.«01_k».proof.Proof.KernelInt
public import proofs.«01_k».proof.Proof.KernelReal

@[expose] public section

namespace Cert.Fixed

open Idealize.ShloMosaic

/-- A word made of a high half and a low half that do not overlap. -/
theorem ori_halves (a b : ℤ) (hb : 0 ≤ b) (hb' : b < 65536) : IntOp.ori (W (a * 65536)) (W b) = W (a * 65536 + b) := by
  have hz : W (a * 65536) &&& W b = 0#32 := by
    apply BitVec.eq_of_toNat_eq
    rw [BitVec.toNat_and, toNat_W, toNat_W]
    have e1 : (a * 65536 % 2 ^ 32).toNat = 2 ^ 16 * (a % 65536).toNat := by omega
    have e2 : (b % 2 ^ 32).toNat < 2 ^ 16 := by omega
    rw [e1]
    apply Nat.eq_of_testBit_eq
    intro i
    rw [Nat.testBit_and, Nat.testBit_two_pow_mul]
    by_cases hi : i < 16
    · simp [hi, Nat.not_le.2 hi]
    · rw [Nat.testBit_lt_two_pow (lt_of_lt_of_le e2 (Nat.pow_le_pow_right (by norm_num) (not_lt.1 hi)))]
      simp
  show W (a * 65536) ||| W b = _
  rw [← BitVec.add_eq_or_of_and_eq_zero _ _ hz]
  exact addi_W _ _

/-- The low sum with the bias's low half. -/
def lowBias (l B : BitVec 32) : BitVec 32 := IntOp.addi l (IntOp.andi B 65535#32)
/-- The carry of the two sums out of their low sixteen bits. -/
def carryOut (h l B : BitVec 32) : BitVec 32 := IntOp.shrsi .vector (IntOp.addi h (IntOp.shrsi .vector (lowBias l B) 8#32)) 8#32
/-- The bias over 2^16. -/
def biasTop (B H : BitVec 32) : BitVec 32 := IntOp.ori (IntOp.shli .vector H 16#32) (IntOp.shrui .vector B 16#32)
/-- The accumulator over 2^16. -/
def accTop (h l B H : BitVec 32) : BitVec 32 := IntOp.addi (carryOut h l B) (biasTop B H)
/-- The two sums with the bias's low half, as one word. -/
def accLow (h l B : BitVec 32) : BitVec 32 := IntOp.addi (IntOp.shli .vector h 8#32) (lowBias l B)
/-- The multiplier scaled by its power of two, an f32. -/
noncomputable def scaled (M s : BitVec 32) : EReal :=
  (FloatOps.sitofp .f32 M : Ideal .f32) * Ideal.ofBits .f32 (IntOp.shli .vector (IntOp.subi 127#32 (IntOp.subi 31#32 s)) 23#32)
/-- The product over 2^62, an f32 over the extended reals. -/
noncomputable def product (h l B H M s : BitVec 32) : EReal :=
  ((FloatOps.sitofp .f32 (carryOut h l B) : Ideal .f32)
      + ((FloatOps.sitofp .f32 H : Ideal .f32) * Ideal.ofBits .f32 1199570944#32 + (FloatOps.sitofp .f32 (IntOp.shrui .vector B 16#32) : Ideal .f32)) : EReal)
    * (scaled M s * Ideal.ofBits .f32 1199570944#32)
  + (FloatOps.sitofp .f32 (IntOp.andi (accLow h l B) 65535#32) : Ideal .f32) * scaled M s

/-- The kernel's result word. -/
noncomputable def kernelWord (h l B H M s : BitVec 32) : BitVec 16 :=
  lastStep (product h l B H M s)
    (topWord (mulLow M s) (mulHigh M s) (IntOp.andi (mulLow M s) 65535#32) (IntOp.shrui .vector (mulLow M s) 16#32)
      (IntOp.andi (accLow h l B) 65535#32) (IntOp.andi (accTop h l B H) 65535#32)
      (IntOp.addi (accLow h l B) (IntOp.shli .vector (biasTop B H) 16#32)) (IntOp.shrsi .vector (accTop h l B H) 16#32))

section

variable {h l B H M s : ℤ} (hh : -58720256 ≤ h) (hh' : h ≤ 58720256) (hl : -58720256 ≤ l) (hl' : l ≤ 58720256)
  (hB : 0 ≤ B) (hB' : B < 2 ^ 32) (hH : -32764 ≤ H) (hH' : H ≤ 32763) (hM : 0 ≤ M) (hM' : M < 2 ^ 31) (hs : -31 ≤ s) (hs' : s ≤ 15)

theorem lowBias_eq : lowBias (W l) (W B) = W (l + B % 65536) := by
  unfold lowBias
  rw [andi16, addi_W]

include hh hh' hl hl' in
theorem carryOut_eq : carryOut (W h) (W l) (W B) = W ((256 * h + (l + B % 65536)) / 65536) := by
  unfold carryOut
  rw [lowBias_eq, show (8#32 : BitVec 32) = W 8 from rfl, shrsi_W .vector (by omega) (by omega) (by norm_num) (by norm_num),
    show (2 : ℤ) ^ (8 : ℤ).toNat = 256 from rfl, addi_W, shrsi_W .vector (by omega) (by omega) (by norm_num) (by norm_num),
    show (2 : ℤ) ^ (8 : ℤ).toNat = 256 from rfl]
  congr 1
  omega

include hB hB' in
theorem biasTop_eq : biasTop (W B) (W H) = W (H * 65536 + B / 65536) := by
  unfold biasTop
  rw [show (16#32 : BitVec 32) = W 16 from rfl, shli_W .vector _ (by norm_num) (by norm_num), shrui_W .vector hB hB' (by norm_num) (by norm_num),
    show (2 : ℤ) ^ (16 : ℤ).toNat = 65536 from rfl]
  exact ori_halves _ _ (by omega) (by omega)

theorem accLow_eq : accLow (W h) (W l) (W B) = W (256 * h + (l + B % 65536)) := by
  unfold accLow
  rw [lowBias_eq, show (8#32 : BitVec 32) = W 8 from rfl, shli_W .vector _ (by norm_num) (by norm_num),
    show (2 : ℤ) ^ (8 : ℤ).toNat = 256 from rfl, addi_W, mul_comm]

include hh hh' hl hl' hB hB' in
theorem accTop_eq : accTop (W h) (W l) (W B) (W H) = W ((256 * h + l + B + 2 ^ 32 * H) / 65536) := by
  unfold accTop
  rw [carryOut_eq hh hh' hl hl', biasTop_eq hB hB', addi_W]
  congr 1
  omega

include hs hs' in
theorem scaled_eq (hM1 : -2 ^ 31 ≤ M) (hM' : M < 2 ^ 31) :
    scaled (W M) (W s) = (((M * 2 ^ (s + 31).toNat : ℤ) : ℝ) / 2 ^ 62 : ℝ) := by
  unfold scaled
  rw [show (127#32 : BitVec 32) = W 127 from rfl, show (31#32 : BitVec 32) = W 31 from rfl, show (23#32 : BitVec 32) = W 23 from rfl, subi_W, subi_W,
    shli_W .vector _ (by norm_num) (by norm_num)]
  obtain ⟨t, ht⟩ : ∃ t : ℕ, (s + 31).toNat = t := ⟨_, rfl⟩
  have e : (127 - (31 - s)) * 2 ^ (23 : ℤ).toNat = ((t + 65 : ℕ) : ℤ) * 2 ^ 23 := by
    show (127 - (31 - s)) * 8388608 = ((t + 65 : ℕ) : ℤ) * 8388608
    omega
  rw [e, ofBits_pow _ (by omega) (by omega), ht]
  show (((W M).toInt : ℝ) : EReal) * _ = _
  rw [toInt_W hM1 hM', ← EReal.coe_mul]
  congr 1
  push_cast
  rw [show (t : ℤ) + 65 - 127 = (t : ℤ) + (-62 : ℤ) by ring, zpow_add₀ (by norm_num), zpow_natCast,
    show (2 : ℝ) ^ (-62 : ℤ) = 1 / 2 ^ 62 by norm_num]
  ring

include hh hh' hl hl' hB hB' hH hH' hM hM' hs hs' in
theorem product_eq : product (W h) (W l) (W B) (W H) (W M) (W s)
    = (((((256 * h + l + B + 2 ^ 32 * H) * (M * 2 ^ (s + 31).toNat) : ℤ) : ℝ) / 2 ^ 62 : ℝ) : EReal) := by
  unfold product
  rw [scaled_eq hs hs' (by omega) hM', carryOut_eq hh hh' hl hl', accLow_eq, andi16, show (16#32 : BitVec 32) = W 16 from rfl,
    shrui_W .vector hB hB' (by norm_num) (by norm_num), show (2 : ℤ) ^ (16 : ℤ).toNat = 65536 from rfl, c_65536]
  show ((((W ((256 * h + (l + B % 65536)) / 65536)).toInt : ℝ) : EReal)
      + ((((W H).toInt : ℝ) : EReal) * ((65536 : ℝ) : EReal) + (((W (B / 65536)).toInt : ℝ) : EReal)))
    * (((((M * 2 ^ (s + 31).toNat : ℤ) : ℝ) / 2 ^ 62 : ℝ) : EReal) * ((65536 : ℝ) : EReal))
    + (((W ((256 * h + (l + B % 65536)) % 65536)).toInt : ℝ) : EReal) * ((((M * 2 ^ (s + 31).toNat : ℤ) : ℝ) / 2 ^ 62 : ℝ) : EReal) = _
  rw [toInt_W (by omega) (by omega), toInt_W (by omega) (by omega), toInt_W (by omega) (by omega), toInt_W (by omega) (by omega)]
  simp only [← EReal.coe_mul, ← EReal.coe_add]
  congr 1
  have e : 256 * h + l + B + 2 ^ 32 * H
      = (256 * h + (l + B % 65536)) / 65536 * 65536 + (H * 65536 * 65536 + B / 65536 * 65536) + (256 * h + (l + B % 65536)) % 65536 := by omega
  rw [e]
  push_cast
  ring

include hh hh' hl hl' hB hB' hH hH' hM hM' hs hs' in
/-- The kernel's word is the exact product rounded half up at bit 62 and clipped. -/
theorem kernelWord_eq : kernelWord (W h) (W l) (W B) (W H) (W M) (W s)
    = BitVec.ofInt 16 (requant (256 * h + l + B + 2 ^ 32 * H) M (s + 31).toNat) := by
  unfold kernelWord
  rw [product_eq hh hh' hl hl' hB hB' hH hH' hM hM' hs hs', mulLow_eq M s hs hs', mulHigh_eq M s hM hM' hs hs', accTop_eq hh hh' hl hl' hB hB',
    accLow_eq, biasTop_eq hB hB']
  obtain ⟨A, hA⟩ : ∃ A, A = 256 * h + l + B + 2 ^ 32 * H := ⟨_, rfl⟩
  obtain ⟨m, hm⟩ : ∃ m, m = M * 2 ^ (s + 31).toNat := ⟨_, rfl⟩
  rw [← hA, ← hm]
  have e0 : IntOp.andi (W (256 * h + (l + B % 65536))) 65535#32 = W (A % 65536) := by rw [andi16]; congr 1; omega
  have e1 : IntOp.andi (W (A / 65536)) 65535#32 = W (A / 65536 % 65536) := andi16 _
  have e2 : IntOp.addi (W (256 * h + (l + B % 65536))) (IntOp.shli .vector (W (H * 65536 + B / 65536)) 16#32) = W A := by
    rw [show (16#32 : BitVec 32) = W 16 from rfl, shli_W .vector _ (by norm_num) (by norm_num), addi_W]
    congr 1
    show _ + _ * 65536 = _
    omega
  have e3 : IntOp.shrsi .vector (W (A / 65536)) 16#32 = W (A / 65536 / 65536) := by
    rw [show (16#32 : BitVec 32) = W 16 from rfl, shrsi_W .vector (by omega) (by omega) (by norm_num) (by norm_num)]
    rfl
  have e4 : IntOp.andi (W m) 65535#32 = W (m % 65536) := andi16 _
  have e5 : IntOp.shrui .vector (W m) 16#32 = W (m % 2 ^ 32 / 65536) := by
    rw [W_congr (a := m) (b := m % 2 ^ 32) (m / 2 ^ 32) (by omega), show (16#32 : BitVec 32) = W 16 from rfl,
      shrui_W .vector (by omega) (by omega) (by norm_num) (by norm_num)]
    rfl
  rw [e0, e1, e2, e3, e4, e5, topWord_eq, lastStep_eq]
  unfold requant
  rw [hm]

end

end Cert.Fixed
-- ==== Proof.KernelTail.lean ====
/- The result block read at one row and one channel: it is the kernel's word of the two sums and the channel's bias halves,
   multiplier and shift (`tail_at`). -/
module

public import proofs.«01_k».proof.Proof.KernelBlock
public import proofs.«01_k».proof.Proof.KernelWord
public import Idealize.ShloMosaic.Lib.Pointwise

@[expose] public section

set_option maxRecDepth 16384

noncomputable section

open Idealize.ShloMosaic Idealize.SL.Sem Idealize.ShloMosaic.Pointwise

namespace Cert.KerArr

open Cert.KernelIdeal Cert.KernelIdeal.Gen Cert.Fixed

theorem tail_at (v29 : IVec S512x512 32) (x2 x3 x4 x5 : Vec Ideal S1x512 .i32) (r : Fin 256) (l : Fin 512) :
    tail v29 x2 x3 x4 x5 (ix2 r l)
      = kernelWord (v29 (ix2 ⟨r.val, by omega⟩ l)) (v29 (ix2 ⟨256 + r.val, by omega⟩ l)) (x2 (ix2 0 l)) (x3 (ix2 0 l)) (x4 (ix2 0 l)) (x5 (ix2 0 l)) := by
  pointwise [tail, k0_pay32, k0_pay31, k0_pay30, k0_pay29, k0_pay28, k0_pay27, k0_pay26, k0_pay25, k0_pay24, k0_pay23, k0_pay22, k0_pay21, k0_pay20, k0_pay19, k0_pay18, k0_pay17, k0_pay16, k0_pay15, k0_pay14, k0_pay13, k0_pay12, k0_pay11, k0_pay10, k0_pay9, k0_pay8, k0_pay7, k0_pay6]
  rfl

end Cert.KerArr

end
-- ==== Proof.RefTailArr.lean ====
/- The reference's array, read at one element, up to its two partial products: the word at (r, n) is `refWord` of the two
   partial products there and of the four parameters of channel n. -/
module

public import proofs.«01_k».proof.Proof.Gen.ReferenceIdeal.Run
public import proofs.«01_k».proof.Proof.RefWord
public import Idealize.ShloMosaic.Lib.Pointwise

@[expose] public section

set_option maxRecDepth 16384

noncomputable section

namespace Cert.RefArr

open Cert.ReferenceIdeal Cert.ReferenceIdeal.Gen Cert.ReferenceIdeal.Value Cert.Fixed
open Idealize.ShloMosaic Idealize.ShloMosaic.TcCoe Idealize.SL.Sem Idealize.ShloMosaic.StableHlo Idealize.ShloMosaic.Pointwise

variable {F : FTy → Type} [FloatOps F]
variable (V0 : Valuation τ sig (Elt F)) (r : Fin 256) (n : Fin 18944)

/-- The parameters of the channels, as the arguments hold them. -/
def blo : IVec S18944 32 := V0 (Proc.devRef .tc main_arg2)
def bhi : IVec S18944 32 := V0 (Proc.devRef .tc main_arg3)
def mult : IVec S18944 32 := V0 (Proc.devRef .tc main_arg4)
def shift : IVec S18944 32 := V0 (Proc.devRef .tc main_arg5)

/-- A channel's word spread over the rows. -/
theorem col_at (y : IVec S18944 32) :
    broadcastInDim S256x18944 ![0, 1] bcast_S1x18944_S256x18944_0_1 (broadcastInDim S1x18944 ![1] bcast_S18944_S1x18944_1 y) (ix2 r n)
      = y (ix1 n) := by
  pointwise

theorem limb0_at : res_main_v105 V0 (ix1 n) = mulLimb 0#32 (mult V0 (ix1 n)) (shift V0 (ix1 n)) := rfl
theorem limb1_at : res_main_v119 V0 (ix1 n) = mulLimb 15#32 (mult V0 (ix1 n)) (shift V0 (ix1 n)) := rfl
theorem limb2_at : res_main_v133 V0 (ix1 n) = mulLimb 30#32 (mult V0 (ix1 n)) (shift V0 (ix1 n)) := rfl
theorem limb3_at : res_main_v147 V0 (ix1 n) = mulLimb 45#32 (mult V0 (ix1 n)) (shift V0 (ix1 n)) := rfl
theorem limb4_at : res_main_v161 V0 (ix1 n) = mulLimb 60#32 (mult V0 (ix1 n)) (shift V0 (ix1 n)) := rfl
theorem limb5_at : res_main_v175 V0 (ix1 n) = mulLimb 75#32 (mult V0 (ix1 n)) (shift V0 (ix1 n)) := rfl

theorem b0_at : (id (andi (V0 (Proc.devRef .tc main_arg2)) (broadcastInDim S18944 ![] bcast_S_S18944 (constantI S_ 32 32767#32))) : IVec S18944 32) (ix1 n)
    = lo (blo V0 (ix1 n)) := rfl

theorem acc0_at (a b c : IVec S256x18944 32) (i : S256x18944.Idx) :
    addi (addi (muli (broadcastInDim S256x18944 ![] bcast_S_S256x18944 (constantI S_ 32 256#32)) (andi a (broadcastInDim S256x18944 ![] bcast_S_S256x18944 (constantI S_ 32 32767#32)))) (andi b (broadcastInDim S256x18944 ![] bcast_S_S256x18944 (constantI S_ 32 32767#32)))) c i
      = IntOp.addi (IntOp.addi (IntOp.muli 256#32 (lo (a i))) (lo (b i))) (c i) := rfl

theorem v57_at : res_main_v57 V0 (ix2 r n)
    = acc0 (res_main_v17 V0 (ix2 r n)) (res_main_v32 V0 (ix2 r n)) (blo V0 (ix1 n)) := by
  unfold res_main_v57
  refine (acc0_at _ _ _ _).trans ?_
  rw [col_at]
  unfold acc0
  exact congrArg (IntOp.addi _) (b0_at V0 n)

theorem b1_at : (id (andi (Host.shrui (V0 (Proc.devRef .tc main_arg2)) (broadcastInDim S18944 ![] bcast_S_S18944 (constantI S_ 32 15#32))) (broadcastInDim S18944 ![] bcast_S_S18944 (constantI S_ 32 32767#32))) : IVec S18944 32) (ix1 n)
    = IntOp.andi (IntOp.shrui .host (blo V0 (ix1 n)) 15#32) 32767#32 := rfl

theorem acc1_at (a b c d : IVec S256x18944 32) (i : S256x18944.Idx) :
    addi (addi (addi (muli (broadcastInDim S256x18944 ![] bcast_S_S256x18944 (constantI S_ 32 256#32)) (Host.shrsi a (broadcastInDim S256x18944 ![] bcast_S_S256x18944 (constantI S_ 32 15#32)))) (Host.shrsi b (broadcastInDim S256x18944 ![] bcast_S_S256x18944 (constantI S_ 32 15#32)))) c)
        (Host.shrsi d (broadcastInDim S256x18944 ![] bcast_S_S256x18944 (constantI S_ 32 15#32))) i
      = IntOp.addi (IntOp.addi (IntOp.addi (IntOp.muli 256#32 (hi (a i))) (hi (b i))) (c i)) (hi (d i)) := rfl

theorem v75_at : res_main_v75 V0 (ix2 r n)
    = acc1 (res_main_v17 V0 (ix2 r n)) (res_main_v32 V0 (ix2 r n)) (blo V0 (ix1 n)) := by
  unfold res_main_v75
  refine (acc1_at _ _ _ _ _).trans ?_
  rw [col_at, v57_at]
  unfold acc1
  rw [b1_at]

theorem carry_at (a b : IVec S256x18944 32) (i : S256x18944.Idx) :
    addi a (Host.shrsi b (broadcastInDim S256x18944 ![] bcast_S_S256x18944 (constantI S_ 32 15#32))) i = IntOp.addi (a i) (hi (b i)) := rfl

theorem b2_at : (addi (id (Host.shrui (V0 (Proc.devRef .tc main_arg2)) (broadcastInDim S18944 ![] bcast_S_S18944 (constantI S_ 32 30#32)))) (Host.shli (andi (V0 (Proc.devRef .tc main_arg3)) (broadcastInDim S18944 ![] bcast_S_S18944 (constantI S_ 32 8191#32))) (broadcastInDim S18944 ![] bcast_S_S18944 (constantI S_ 32 2#32))) : IVec S18944 32) (ix1 n)
    = IntOp.addi (IntOp.shrui .host (blo V0 (ix1 n)) 30#32) (IntOp.shli .host (IntOp.andi (bhi V0 (ix1 n)) 8191#32) 2#32) := rfl

theorem b3_at : (Host.shrsi (V0 (Proc.devRef .tc main_arg3)) (broadcastInDim S18944 ![] bcast_S_S18944 (constantI S_ 32 13#32)) : IVec S18944 32) (ix1 n)
    = IntOp.shrsi .host (bhi V0 (ix1 n)) 13#32 := rfl

theorem v82_at : res_main_v82 V0 (ix2 r n)
    = acc2 (res_main_v17 V0 (ix2 r n)) (res_main_v32 V0 (ix2 r n)) (blo V0 (ix1 n)) (bhi V0 (ix1 n)) := by
  unfold res_main_v82
  refine (carry_at _ _ _).trans ?_
  rw [col_at, v75_at]
  unfold acc2
  rw [b2_at]

theorem v89_at : res_main_v89 V0 (ix2 r n)
    = acc3 (res_main_v17 V0 (ix2 r n)) (res_main_v32 V0 (ix2 r n)) (blo V0 (ix1 n)) (bhi V0 (ix1 n)) := by
  unfold res_main_v89
  refine (carry_at _ _ _).trans ?_
  rw [col_at, v82_at]
  unfold acc3
  rw [b3_at]

/-- A product of two limbs. -/
theorem prod_at (a : IVec S256x18944 32) (m : IVec S18944 32) :
    muli a (broadcastInDim S256x18944 ![0, 1] bcast_S1x18944_S256x18944_0_1 (broadcastInDim S1x18944 ![1] bcast_S18944_S1x18944_1 m)) (ix2 r n)
      = IntOp.muli (a (ix2 r n)) (m (ix1 n)) :=
  congrArg (IntOp.muli _) (col_at r n m)

theorem v178_at : res_main_v178 V0 (ix2 r n) = IntOp.muli (res_main_v74 V0 (ix2 r n)) (res_main_v105 V0 (ix1 n)) := prod_at r n _ _
theorem v185_at : res_main_v185 V0 (ix2 r n) = IntOp.muli (res_main_v74 V0 (ix2 r n)) (res_main_v119 V0 (ix1 n)) := prod_at r n _ _
theorem v192_at : res_main_v192 V0 (ix2 r n) = IntOp.muli (res_main_v74 V0 (ix2 r n)) (res_main_v133 V0 (ix1 n)) := prod_at r n _ _
theorem v199_at : res_main_v199 V0 (ix2 r n) = IntOp.muli (res_main_v74 V0 (ix2 r n)) (res_main_v147 V0 (ix1 n)) := prod_at r n _ _
theorem v206_at : res_main_v206 V0 (ix2 r n) = IntOp.muli (res_main_v74 V0 (ix2 r n)) (res_main_v161 V0 (ix1 n)) := prod_at r n _ _
theorem v213_at : res_main_v213 V0 (ix2 r n) = IntOp.muli (res_main_v74 V0 (ix2 r n)) (res_main_v175 V0 (ix1 n)) := prod_at r n _ _
theorem v220_at : res_main_v220 V0 (ix2 r n) = IntOp.muli (res_main_v79 V0 (ix2 r n)) (res_main_v105 V0 (ix1 n)) := prod_at r n _ _
theorem v227_at : res_main_v227 V0 (ix2 r n) = IntOp.muli (res_main_v79 V0 (ix2 r n)) (res_main_v119 V0 (ix1 n)) := prod_at r n _ _
theorem v234_at : res_main_v234 V0 (ix2 r n) = IntOp.muli (res_main_v79 V0 (ix2 r n)) (res_main_v133 V0 (ix1 n)) := prod_at r n _ _
theorem v241_at : res_main_v241 V0 (ix2 r n) = IntOp.muli (res_main_v79 V0 (ix2 r n)) (res_main_v147 V0 (ix1 n)) := prod_at r n _ _
theorem v248_at : res_main_v248 V0 (ix2 r n) = IntOp.muli (res_main_v79 V0 (ix2 r n)) (res_main_v161 V0 (ix1 n)) := prod_at r n _ _
theorem v255_at : res_main_v255 V0 (ix2 r n) = IntOp.muli (res_main_v79 V0 (ix2 r n)) (res_main_v175 V0 (ix1 n)) := prod_at r n _ _
theorem v262_at : res_main_v262 V0 (ix2 r n) = IntOp.muli (res_main_v86 V0 (ix2 r n)) (res_main_v105 V0 (ix1 n)) := prod_at r n _ _
theorem v269_at : res_main_v269 V0 (ix2 r n) = IntOp.muli (res_main_v86 V0 (ix2 r n)) (res_main_v119 V0 (ix1 n)) := prod_at r n _ _
theorem v276_at : res_main_v276 V0 (ix2 r n) = IntOp.muli (res_main_v86 V0 (ix2 r n)) (res_main_v133 V0 (ix1 n)) := prod_at r n _ _
theorem v283_at : res_main_v283 V0 (ix2 r n) = IntOp.muli (res_main_v86 V0 (ix2 r n)) (res_main_v147 V0 (ix1 n)) := prod_at r n _ _
theorem v290_at : res_main_v290 V0 (ix2 r n) = IntOp.muli (res_main_v86 V0 (ix2 r n)) (res_main_v161 V0 (ix1 n)) := prod_at r n _ _
theorem v297_at : res_main_v297 V0 (ix2 r n) = IntOp.muli (res_main_v86 V0 (ix2 r n)) (res_main_v175 V0 (ix1 n)) := prod_at r n _ _
theorem v304_at : res_main_v304 V0 (ix2 r n) = IntOp.muli (res_main_v89 V0 (ix2 r n)) (res_main_v105 V0 (ix1 n)) := prod_at r n _ _
theorem v311_at : res_main_v311 V0 (ix2 r n) = IntOp.muli (res_main_v89 V0 (ix2 r n)) (res_main_v119 V0 (ix1 n)) := prod_at r n _ _
theorem v318_at : res_main_v318 V0 (ix2 r n) = IntOp.muli (res_main_v89 V0 (ix2 r n)) (res_main_v133 V0 (ix1 n)) := prod_at r n _ _
theorem v325_at : res_main_v325 V0 (ix2 r n) = IntOp.muli (res_main_v89 V0 (ix2 r n)) (res_main_v147 V0 (ix1 n)) := prod_at r n _ _
theorem v332_at : res_main_v332 V0 (ix2 r n) = IntOp.muli (res_main_v89 V0 (ix2 r n)) (res_main_v161 V0 (ix1 n)) := prod_at r n _ _
theorem v339_at : res_main_v339 V0 (ix2 r n) = IntOp.muli (res_main_v89 V0 (ix2 r n)) (res_main_v175 V0 (ix1 n)) := prod_at r n _ _

/-- The products' columns and the saturating read, with the products as they are. -/
def tailOf (p00 p01 p02 p03 p04 p05 p10 p11 p12 p13 p14 p15 p20 p21 p22 p23 p24 p25 p30 p31 p32 p33 p34 p35 : BitVec 32) : BitVec 16 :=
  carryTail (lo p00)
    (IntOp.addi (IntOp.addi (hi p00) (lo p01)) (lo p10))
    (IntOp.addi (IntOp.addi (IntOp.addi (IntOp.addi (hi p01) (lo p02)) (hi p10)) (lo p11)) (lo p20))
    (IntOp.addi (IntOp.addi (IntOp.addi (IntOp.addi (IntOp.addi (IntOp.addi (hi p02) (lo p03)) (hi p11)) (lo p12)) (hi p20)) (lo p21)) (lo p30))
    (IntOp.addi (IntOp.addi (IntOp.addi (IntOp.addi (IntOp.addi (IntOp.addi (IntOp.addi (IntOp.addi (hi p03) (lo p04)) (hi p12)) (lo p13)) (hi p21)) (lo p22)) (hi p30)) (lo p31)) 16384#32)
    (IntOp.addi (IntOp.addi (IntOp.addi (IntOp.addi (IntOp.addi (IntOp.addi (IntOp.addi (hi p04) (lo p05)) (hi p13)) (lo p14)) (hi p22)) (lo p23)) (hi p31)) (lo p32))
    (IntOp.addi (IntOp.addi (IntOp.addi (IntOp.addi (IntOp.addi (IntOp.addi (hi p05) (hi p14)) (lo p15)) (hi p23)) (lo p24)) (hi p32)) (lo p33))
    (IntOp.addi (IntOp.addi (IntOp.addi (IntOp.addi (hi p15) (hi p24)) (lo p25)) (hi p33)) (lo p34))
    (IntOp.addi (IntOp.addi (hi p25) (hi p34)) (lo p35))
    (hi p35)

theorem refTail_tailOf (a0 a1 a2 a3 m0 m1 m2 m3 m4 m5 : BitVec 32) :
    refTail a0 a1 a2 a3 m0 m1 m2 m3 m4 m5
      = tailOf (IntOp.muli a0 m0) (IntOp.muli a0 m1) (IntOp.muli a0 m2) (IntOp.muli a0 m3) (IntOp.muli a0 m4) (IntOp.muli a0 m5)
        (IntOp.muli a1 m0) (IntOp.muli a1 m1) (IntOp.muli a1 m2) (IntOp.muli a1 m3) (IntOp.muli a1 m4) (IntOp.muli a1 m5)
        (IntOp.muli a2 m0) (IntOp.muli a2 m1) (IntOp.muli a2 m2) (IntOp.muli a2 m3) (IntOp.muli a2 m4) (IntOp.muli a2 m5)
        (IntOp.muli a3 m0) (IntOp.muli a3 m1) (IntOp.muli a3 m2) (IntOp.muli a3 m3) (IntOp.muli a3 m4) (IntOp.muli a3 m5) := rfl

/-- The columns after the carries, read at an element. -/
theorem v180_at (i : S256x18944.Idx) : res_main_v180 V0 i = lo (res_main_v178 V0 i) := rfl
theorem v388_at (i : S256x18944.Idx) : res_main_v388 V0 i = cy (IntOp.addi (IntOp.addi (hi (res_main_v178 V0 i)) (lo (res_main_v185 V0 i))) (lo (res_main_v220 V0 i))) (res_main_v180 V0 i) := rfl
theorem v393_at (i : S256x18944.Idx) : res_main_v393 V0 i = cy (IntOp.addi (IntOp.addi (IntOp.addi (IntOp.addi (hi (res_main_v185 V0 i)) (lo (res_main_v192 V0 i))) (hi (res_main_v220 V0 i))) (lo (res_main_v227 V0 i))) (lo (res_main_v262 V0 i))) (res_main_v388 V0 i) := rfl
theorem v398_at (i : S256x18944.Idx) : res_main_v398 V0 i = cy (IntOp.addi (IntOp.addi (IntOp.addi (IntOp.addi (IntOp.addi (IntOp.addi (hi (res_main_v192 V0 i)) (lo (res_main_v199 V0 i))) (hi (res_main_v227 V0 i))) (lo (res_main_v234 V0 i))) (hi (res_main_v262 V0 i))) (lo (res_main_v269 V0 i))) (lo (res_main_v304 V0 i))) (res_main_v393 V0 i) := rfl
theorem v403_at (i : S256x18944.Idx) : res_main_v403 V0 i = cy (IntOp.addi (IntOp.addi (IntOp.addi (IntOp.addi (IntOp.addi (IntOp.addi (IntOp.addi (IntOp.addi (hi (res_main_v199 V0 i)) (lo (res_main_v206 V0 i))) (hi (res_main_v234 V0 i))) (lo (res_main_v241 V0 i))) (hi (res_main_v269 V0 i))) (lo (res_main_v276 V0 i))) (hi (res_main_v304 V0 i))) (lo (res_main_v311 V0 i))) 16384#32) (res_main_v398 V0 i) := rfl
theorem v408_at (i : S256x18944.Idx) : res_main_v408 V0 i = cy (IntOp.addi (IntOp.addi (IntOp.addi (IntOp.addi (IntOp.addi (IntOp.addi (IntOp.addi (hi (res_main_v206 V0 i)) (lo (res_main_v213 V0 i))) (hi (res_main_v241 V0 i))) (lo (res_main_v248 V0 i))) (hi (res_main_v276 V0 i))) (lo (res_main_v283 V0 i))) (hi (res_main_v311 V0 i))) (lo (res_main_v318 V0 i))) (res_main_v403 V0 i) := rfl
theorem v413_at (i : S256x18944.Idx) : res_main_v413 V0 i = cy (IntOp.addi (IntOp.addi (IntOp.addi (IntOp.addi (IntOp.addi (IntOp.addi (hi (res_main_v213 V0 i)) (hi (res_main_v248 V0 i))) (lo (res_main_v255 V0 i))) (hi (res_main_v283 V0 i))) (lo (res_main_v290 V0 i))) (hi (res_main_v318 V0 i))) (lo (res_main_v325 V0 i))) (res_main_v408 V0 i) := rfl
theorem v418_at (i : S256x18944.Idx) : res_main_v418 V0 i = cy (IntOp.addi (IntOp.addi (IntOp.addi (IntOp.addi (hi (res_main_v255 V0 i)) (hi (res_main_v290 V0 i))) (lo (res_main_v297 V0 i))) (hi (res_main_v325 V0 i))) (lo (res_main_v332 V0 i))) (res_main_v413 V0 i) := rfl
theorem v423_at (i : S256x18944.Idx) : res_main_v423 V0 i = cy (IntOp.addi (IntOp.addi (hi (res_main_v297 V0 i)) (hi (res_main_v332 V0 i))) (lo (res_main_v339 V0 i))) (res_main_v418 V0 i) := rfl
theorem v428_at (i : S256x18944.Idx) : res_main_v428 V0 i = cy (hi (res_main_v339 V0 i)) (res_main_v423 V0 i) := rfl

/-- The reference's result over any contents of its arguments, as the generated run states it. -/
def result : IVec S256x18944 16 :=
  trunci 16 (select (ori (andi (andi (cmpi .eq (res_main_v428 V0) (broadcastInDim S256x18944 ![] bcast_S_S256x18944 (constantI S_ 32 0#32))) (cmpi .eq (res_main_v427 V0) (broadcastInDim S256x18944 ![] bcast_S_S256x18944 (constantI S_ 32 0#32)))) (cmpi .eq (res_main_v422 V0) (broadcastInDim S256x18944 ![] bcast_S_S256x18944 (constantI S_ 32 0#32)))) (res_main_v447 V0)) (minsi (broadcastInDim S256x18944 ![] bcast_S_S256x18944 (id (constantI S_ 32 32767#32))) (maxsi (broadcastInDim S256x18944 ![] bcast_S_S256x18944 (id (constantI S_ 32 4294934528#32))) (select (res_main_v447 V0) (subi (res_main_v431 V0) (broadcastInDim S256x18944 ![] bcast_S_S256x18944 (constantI S_ 32 1073741824#32))) (res_main_v431 V0)))) (id (select (cmpi .slt (res_main_v428 V0) (broadcastInDim S256x18944 ![] bcast_S_S256x18944 (constantI S_ 32 0#32))) (broadcastInDim S256x18944 ![] bcast_S_S256x18944 (constantI S_ 32 4294934528#32)) (broadcastInDim S256x18944 ![] bcast_S_S256x18944 (constantI S_ 32 32767#32))))) natLt_16_32

/-- The saturating read at an element, over any five arrays. -/
theorem read_at (a428 a427 a422 a431 : IVec S256x18944 32) (a447 : IVec S256x18944 1) (i : S256x18944.Idx) :
    (trunci 16 (select (ori (andi (andi (cmpi .eq a428 (broadcastInDim S256x18944 ![] bcast_S_S256x18944 (constantI S_ 32 0#32))) (cmpi .eq a427 (broadcastInDim S256x18944 ![] bcast_S_S256x18944 (constantI S_ 32 0#32)))) (cmpi .eq a422 (broadcastInDim S256x18944 ![] bcast_S_S256x18944 (constantI S_ 32 0#32)))) a447) (minsi (broadcastInDim S256x18944 ![] bcast_S_S256x18944 (id (constantI S_ 32 32767#32))) (maxsi (broadcastInDim S256x18944 ![] bcast_S_S256x18944 (id (constantI S_ 32 4294934528#32))) (select a447 (subi a431 (broadcastInDim S256x18944 ![] bcast_S_S256x18944 (constantI S_ 32 1073741824#32))) a431))) (id (select (cmpi .slt a428 (broadcastInDim S256x18944 ![] bcast_S_S256x18944 (constantI S_ 32 0#32))) (broadcastInDim S256x18944 ![] bcast_S_S256x18944 (constantI S_ 32 4294934528#32)) (broadcastInDim S256x18944 ![] bcast_S_S256x18944 (constantI S_ 32 32767#32))))) natLt_16_32 : IVec S256x18944 16) i
      = (Scalar.select (IntOp.ori (IntOp.andi (IntOp.andi (IntOp.cmpi .eq (a428 i) 0#32) (IntOp.cmpi .eq (a427 i) 0#32)) (IntOp.cmpi .eq (a422 i) 0#32)) (a447 i))
          (IntOp.minsi 32767#32 (IntOp.maxsi 4294934528#32 (Scalar.select (a447 i) (IntOp.subi (a431 i) 1073741824#32) (a431 i))))
          (Scalar.select (IntOp.cmpi .slt (a428 i) 0#32) 4294934528#32 32767#32)).setWidth 16 := rfl

theorem v422_at (i : S256x18944.Idx) : res_main_v422 V0 i = lo (res_main_v418 V0 i) := rfl
theorem v427_at (i : S256x18944.Idx) : res_main_v427 V0 i = lo (res_main_v423 V0 i) := rfl
theorem v431_at (i : S256x18944.Idx) : res_main_v431 V0 i
    = IntOp.addi (lo (res_main_v408 V0 i)) (IntOp.shli .host (lo (res_main_v413 V0 i)) 15#32) := rfl
theorem v447_at (i : S256x18944.Idx) : res_main_v447 V0 i
    = IntOp.andi (IntOp.andi (IntOp.cmpi .eq (res_main_v428 V0 i) 4294967295#32) (IntOp.cmpi .eq (res_main_v427 V0 i) 32767#32))
        (IntOp.cmpi .eq (res_main_v422 V0 i) 32767#32) := rfl

theorem result_finish (i : S256x18944.Idx) : result V0 i
    = finish (res_main_v408 V0 i) (res_main_v413 V0 i) (res_main_v418 V0 i) (res_main_v423 V0 i) (res_main_v428 V0 i) := by
  refine (read_at (res_main_v428 V0) (res_main_v427 V0) (res_main_v422 V0) (res_main_v431 V0) (res_main_v447 V0) i).trans ?_
  rw [v447_at, v431_at, v422_at, v427_at]
  unfold finish
  rfl

theorem result_tail (i : S256x18944.Idx) : result V0 i
    = tailOf (res_main_v178 V0 i) (res_main_v185 V0 i) (res_main_v192 V0 i) (res_main_v199 V0 i) (res_main_v206 V0 i) (res_main_v213 V0 i)
        (res_main_v220 V0 i) (res_main_v227 V0 i) (res_main_v234 V0 i) (res_main_v241 V0 i) (res_main_v248 V0 i) (res_main_v255 V0 i)
        (res_main_v262 V0 i) (res_main_v269 V0 i) (res_main_v276 V0 i) (res_main_v283 V0 i) (res_main_v290 V0 i) (res_main_v297 V0 i)
        (res_main_v304 V0 i) (res_main_v311 V0 i) (res_main_v318 V0 i) (res_main_v325 V0 i) (res_main_v332 V0 i) (res_main_v339 V0 i) := by
  rw [result_finish, v428_at, v423_at, v418_at, v413_at, v408_at, v403_at, v398_at, v393_at, v388_at, v180_at]
  unfold tailOf carryTail
  rfl

theorem v74_at : res_main_v74 V0 (ix2 r n) = lo (res_main_v57 V0 (ix2 r n)) := rfl
theorem v79_at : res_main_v79 V0 (ix2 r n) = lo (res_main_v75 V0 (ix2 r n)) := rfl
theorem v86_at : res_main_v86 V0 (ix2 r n) = lo (res_main_v82 V0 (ix2 r n)) := rfl

/-- The word at (r, n). -/
theorem result_at : result V0 (ix2 r n)
    = refWord (res_main_v17 V0 (ix2 r n)) (res_main_v32 V0 (ix2 r n)) (blo V0 (ix1 n)) (bhi V0 (ix1 n)) (mult V0 (ix1 n)) (shift V0 (ix1 n)) := by
  unfold refWord
  rw [← limb0_at, ← limb1_at, ← limb2_at, ← limb3_at, ← limb4_at, ← limb5_at, ← v89_at, ← v82_at, ← v75_at, ← v57_at,
    ← v74_at, ← v79_at, ← v86_at, refTail_tailOf, result_tail,
    v178_at, v185_at, v192_at, v199_at, v206_at, v213_at, v220_at, v227_at, v234_at, v241_at, v248_at, v255_at,
    v262_at, v269_at, v276_at, v283_at, v290_at, v297_at, v304_at, v311_at, v318_at, v325_at, v332_at, v339_at]

end Cert.RefArr

end
-- ==== Proof.RefDot.lean ====
/- The reference's two partial products at one element: the product by the high bytes of x, and the product by the low
   bytes (which the reference centres by 128 and corrects by 128 times the sum of the weights). Each is a sum of integer
   products over k, as a 32-bit word. -/
module

public import proofs.«01_k».proof.Proof.RefTailArr

@[expose] public section

set_option maxRecDepth 16384

noncomputable section

namespace Cert.RefArr

open Cert.ReferenceIdeal Cert.ReferenceIdeal.Gen Cert.ReferenceIdeal.Value Cert.Fixed
open Idealize.ShloMosaic Idealize.ShloMosaic.TcCoe Idealize.SL.Sem Idealize.ShloMosaic.StableHlo Idealize.ShloMosaic.Pointwise

variable {F : FTy → Type} [FloatOps F]
variable (V0 : Valuation τ sig (Elt F)) (r : Fin 256) (n : Fin 18944)

def xarg : IVec S1x256x3584 16 := V0 (Proc.devRef .tc main_arg0)
def warg : IVec S18944x3584 8 := V0 (Proc.devRef .tc main_arg1)

/-- The entry of x as an integer, and the weight as an integer. -/
def xz (k : Fin 3584) : ℤ := (xarg V0 (ix3 0 r k)).toInt
def wz (k : Fin 3584) : ℤ := (warg V0 (ix2 n k)).toInt

theorem fold_addi_W {ι : Type} (S : Finset ι) (f : ι → ℤ) : S.fold IntOp.addi 0#32 (fun k => W (f k)) = W (∑ k ∈ S, f k) := by
  classical
  induction S using Finset.induction_on with
  | empty => rfl
  | insert a S h ih => rw [Finset.fold_insert h, ih, addi_W, Finset.sum_insert h]

/-- A product of rows by rows, at one element. -/
theorem dot_at (a : IVec S256x3584 32) (w : IVec S18944x3584 32) :
    Host.reduce IntOp.addi (muli
        (broadcastInDim S256x18944x3584 ![0, 1, 2] bcast_S256x1x3584_S256x18944x3584_0_1_2 (broadcastInDim S256x1x3584 ![0, 2] bcast_S256x3584_S256x1x3584_0_2 a))
        (broadcastInDim S256x18944x3584 ![0, 1, 2] bcast_S1x18944x3584_S256x18944x3584_0_1_2 (broadcastInDim S1x18944x3584 ![1, 2] bcast_S18944x3584_S1x18944x3584_1_2 w)))
      (constantI S_ 32 0#32) reducesTo_S256x18944x3584_S256x18944_d2 h_S_ (ix2 r n)
      = (Finset.univ : Finset (Fin 3584)).fold IntOp.addi 0#32 fun k => IntOp.muli (a (ix2 r k)) (w (ix2 n k)) := by
  pointwise

/-- A sum of a row, at one channel. -/
theorem rowsum_at (w : IVec S18944x3584 32) :
    Host.reduce IntOp.addi w (constantI S_ 32 0#32) reducesTo_S18944x3584_S18944_d1 h_S_ (ix1 n)
      = (Finset.univ : Finset (Fin 3584)).fold IntOp.addi 0#32 fun k => w (ix2 n k) := by
  pointwise

theorem signExtend_eq {v : ℕ} (x : BitVec v) : x.signExtend 32 = W x.toInt := rfl

theorem byte_W {z : ℤ} (h1 : -128 ≤ z) (h2 : z < 128) : ((W z).setWidth 8).signExtend 32 = W z := by
  rw [signExtend_eq]
  congr 1
  have e : (W z).setWidth 8 = BitVec.ofInt 8 z := by
    apply BitVec.eq_of_toNat_eq
    rw [BitVec.toNat_setWidth, toNat_W, BitVec.toNat_ofInt]
    omega
  rw [e, BitVec.toInt_ofInt_eq_self (by norm_num) (by norm_num; omega) (by norm_num; omega)]

theorem bounds8 (x : BitVec 8) : -128 ≤ x.toInt ∧ x.toInt < 128 :=
  ⟨by have := BitVec.le_toInt x; norm_num at this ⊢; exact this, by have := BitVec.toInt_lt (x := x); norm_num at this ⊢; exact this⟩
theorem bounds16 (x : BitVec 16) : -32768 ≤ x.toInt ∧ x.toInt < 32768 :=
  ⟨by have := BitVec.le_toInt x; norm_num at this ⊢; exact this, by have := BitVec.toInt_lt (x := x); norm_num at this ⊢; exact this⟩

theorem v1_at (k : Fin 3584) : res_main_v1 V0 (ix2 r k) = W (xz V0 r k) := by
  have h : ∀ x : IVec S1x256x3584 16, (extsi 32 (shapeCast _ x shapeCasts_S1x256x3584_S256x3584) natLt_16_32 : IVec S256x3584 32) (ix2 r k)
      = (x (ix3 0 r k)).signExtend 32 := fun x => by pointwise
  exact (h (V0 (Proc.devRef .tc main_arg0))).trans (signExtend_eq _)

/-- The high byte of an entry, as the reference cuts it. -/
theorem high_at (x : IVec S256x3584 32) (i : S256x3584.Idx) (z : ℤ) (h1 : -32768 ≤ z) (h2 : z < 32768) (hx : x i = W z) :
    (extsi 32 (trunci 8 (Host.shrsi x (broadcastInDim S256x3584 ![] bcast_S_S256x3584 (constantI S_ 32 8#32))) natLt_8_32) natLt_8_32 : IVec S256x3584 32) i
      = W (z / 256) := by
  have e : (extsi 32 (trunci 8 (Host.shrsi x (broadcastInDim S256x3584 ![] bcast_S_S256x3584 (constantI S_ 32 8#32))) natLt_8_32) natLt_8_32 : IVec S256x3584 32) i
      = ((IntOp.shrsi .host (x i) 8#32).setWidth 8).signExtend 32 := rfl
  rw [e, hx, show (8#32 : BitVec 32) = W 8 from rfl, shrsi_W .host (by omega) (by omega) (by norm_num) (by norm_num)]
  exact byte_W (z := z / 256) (by omega) (by omega)

/-- The low byte of an entry, less 128. -/
theorem low_at (x : IVec S256x3584 32) (i : S256x3584.Idx) (z : ℤ) (hx : x i = W z) :
    (extsi 32 (trunci 8 (subi (andi x (broadcastInDim S256x3584 ![] bcast_S_S256x3584 (constantI S_ 32 255#32))) (broadcastInDim S256x3584 ![] bcast_S_S256x3584 (constantI S_ 32 128#32))) natLt_8_32) natLt_8_32 : IVec S256x3584 32) i
      = W (z % 256 - 128) := by
  have e : (extsi 32 (trunci 8 (subi (andi x (broadcastInDim S256x3584 ![] bcast_S_S256x3584 (constantI S_ 32 255#32))) (broadcastInDim S256x3584 ![] bcast_S_S256x3584 (constantI S_ 32 128#32))) natLt_8_32) natLt_8_32 : IVec S256x3584 32) i
      = ((IntOp.subi (IntOp.andi (x i) 255#32) 128#32).setWidth 8).signExtend 32 := rfl
  rw [e, hx, andi8, show (128#32 : BitVec 32) = W 128 from rfl, subi_W]
  exact byte_W (by omega) (by omega)

/-- The product by the high bytes. -/
theorem v17_at : res_main_v17 V0 (ix2 r n) = W (∑ k : Fin 3584, xz V0 r k / 256 * wz V0 n k) := by
  unfold res_main_v17
  refine (dot_at r n _ _).trans ?_
  rw [← fold_addi_W]
  congr 1
  funext k
  rw [high_at _ _ (xz V0 r k) (bounds16 _).1 (bounds16 _).2 (v1_at V0 r k), ← muli_W]
  rfl

theorem form32 (a : IVec S256x18944 32) (b : IVec S18944 32) :
    addi a (broadcastInDim S256x18944 ![0, 1] bcast_S1x18944_S256x18944_0_1 (broadcastInDim S1x18944 ![1] bcast_S18944_S1x18944_1
      (muli (broadcastInDim S18944 ![] bcast_S_S18944 (constantI S_ 32 128#32)) b))) (ix2 r n)
      = IntOp.addi (a (ix2 r n)) (IntOp.muli 128#32 (b (ix1 n))) :=
  congrArg (IntOp.addi _) (col_at r n _)

/-- The product by the low bytes. -/
theorem v32_at : res_main_v32 V0 (ix2 r n) = W (∑ k : Fin 3584, xz V0 r k % 256 * wz V0 n k) := by
  unfold res_main_v32
  refine (form32 r n _ _).trans ?_
  rw [dot_at, rowsum_at]
  have e1 : ((Finset.univ : Finset (Fin 3584)).fold IntOp.addi 0#32 fun k => IntOp.muli
      ((extsi 32 (trunci 8 (subi (andi (res_main_v1 V0) (broadcastInDim S256x3584 ![] bcast_S_S256x3584 (constantI S_ 32 255#32))) (broadcastInDim S256x3584 ![] bcast_S_S256x3584 (constantI S_ 32 128#32))) natLt_8_32) natLt_8_32 : IVec S256x3584 32) (ix2 r k))
      ((extsi 32 (V0 (Proc.devRef .tc main_arg1)) natLt_8_32 : IVec S18944x3584 32) (ix2 n k)))
      = W (∑ k : Fin 3584, (xz V0 r k % 256 - 128) * wz V0 n k) := by
    rw [← fold_addi_W]
    congr 1
    funext k
    rw [low_at _ _ (xz V0 r k) (v1_at V0 r k), ← muli_W]
    rfl
  have e2 : ((Finset.univ : Finset (Fin 3584)).fold IntOp.addi 0#32 fun k =>
      (extsi 32 (V0 (Proc.devRef .tc main_arg1)) natLt_8_32 : IVec S18944x3584 32) (ix2 n k)) = W (∑ k : Fin 3584, wz V0 n k) := by
    rw [← fold_addi_W]
    rfl
  rw [e1, e2, show (128#32 : BitVec 32) = W 128 from rfl, muli_W, addi_W, Finset.mul_sum, ← Finset.sum_add_distrib]
  congr 1
  refine Finset.sum_congr rfl fun k _ => ?_
  ring

/-- A sum of 3584 terms of absolute value at most `B`. -/
theorem sum_bounds (f : Fin 3584 → ℤ) (B : ℤ) (h : ∀ k, -B ≤ f k ∧ f k ≤ B) : -(3584 * B) ≤ ∑ k, f k ∧ ∑ k, f k ≤ 3584 * B := by
  constructor
  · have := Finset.card_nsmul_le_sum Finset.univ f (-B) fun k _ => (h k).1
    simp only [Finset.card_univ, Fintype.card_fin, nsmul_eq_mul] at this
    push_cast at this
    linarith
  · have := Finset.sum_le_card_nsmul Finset.univ f B fun k _ => (h k).2
    simp only [Finset.card_univ, Fintype.card_fin, nsmul_eq_mul] at this
    push_cast at this
    linarith

theorem mul_bounds {a b A B : ℤ} (ha : -A ≤ a ∧ a ≤ A) (hb : -B ≤ b ∧ b ≤ B) : -(A * B) ≤ a * b ∧ a * b ≤ A * B := by
  have h1 : |a| ≤ A := abs_le.2 ha
  have h2 : |b| ≤ B := abs_le.2 hb
  have : |a * b| ≤ A * B := by rw [abs_mul]; exact mul_le_mul h1 h2 (abs_nonneg _) (le_trans (abs_nonneg _) h1)
  exact abs_le.1 this

/-- The accumulator at (r, n): the product of the row of x by the row of w, plus the 64-bit bias. -/
def accum : ℤ := (∑ k : Fin 3584, xz V0 r k * wz V0 n k) + ((blo V0 (ix1 n)).toNat : ℤ) + 2 ^ 32 * (bhi V0 (ix1 n)).toInt

/-- What the reference leaves at (r, n). -/
theorem result_requant (hs : -31 ≤ (shift V0 (ix1 n)).toInt) (hs' : (shift V0 (ix1 n)).toInt ≤ 15) (hM : 0 ≤ (mult V0 (ix1 n)).toInt)
    (hH : -32764 ≤ (bhi V0 (ix1 n)).toInt) (hH' : (bhi V0 (ix1 n)).toInt ≤ 32763) :
    result V0 (ix2 r n)
      = BitVec.ofInt 16 (requant (accum V0 r n) (mult V0 (ix1 n)).toInt ((shift V0 (ix1 n)).toInt + 31).toNat) := by
  have bx := fun k => bounds16 (xarg V0 (ix3 0 r k))
  have bw := fun k => bounds8 (warg V0 (ix2 n k))
  have hh := sum_bounds (fun k => xz V0 r k / 256 * wz V0 n k) (128 * 128) fun k =>
    mul_bounds (by have := bx k; unfold xz; omega) (by have := bw k; unfold wz; omega)
  have hl := sum_bounds (fun k => xz V0 r k % 256 * wz V0 n k) (256 * 128) fun k =>
    mul_bounds (by have := bx k; unfold xz; omega) (by have := bw k; unfold wz; omega)
  rw [result_at, v17_at, v32_at, ← W_toNat (blo V0 (ix1 n)), ← W_toInt (bhi V0 (ix1 n)), ← W_toInt (mult V0 (ix1 n)),
    ← W_toInt (shift V0 (ix1 n)),
    refWord_eq _ _ _ _ _ _ (by omega) (by omega) (by omega) (by omega) (by omega) (by have := (blo V0 (ix1 n)).isLt; omega)
      hH hH' hM
      ((toInt_bounds _).2) hs hs']
  simp only [W_toInt, W_toNat]
  unfold accum
  congr 2
  congr 2
  rw [Finset.mul_sum, ← Finset.sum_add_distrib]
  refine Finset.sum_congr rfl fun k _ => ?_
  have := Int.mul_ediv_add_emod (xz V0 r k) 256
  linear_combination (wz V0 n k) * this

end Cert.RefArr

end
-- ==== Proof.KernelDot.lean ====
/- The kernel's two sums at one row and channel, over the extended reals: the scratch holds the high and low bytes of `x`
   exactly (`halves_hi`, `halves_lo`), each chunk's product is an integer that rounding and conversion leave alone
   (`chunk_eq`), and the four chunks add to the sum over all of k (`sums_at`). -/
module

public import proofs.«01_k».proof.Proof.KernelTail
public import proofs.«01_k».proof.Proof.RefDot

@[expose] public section

set_option maxRecDepth 16384

noncomputable section

open Idealize.ShloMosaic Idealize.SL.Sem Idealize.ShloMosaic.Pointwise

namespace Cert.KerArr

open Cert.KernelIdeal Cert.KernelIdeal.Gen Cert.Fixed

/-- The high byte of an entry, rounded to nearest. -/
def hiByte (x : BitVec 16) : ℤ := (x.toInt + 128) / 256
/-- What is left of it. -/
def loByte (x : BitVec 16) : ℤ := x.toInt - 256 * ((x.toInt + 128) / 256)

theorem hiByte_bounds (x : BitVec 16) : -128 ≤ hiByte x ∧ hiByte x ≤ 128 := by
  have := Cert.RefArr.bounds16 x
  unfold hiByte
  omega

theorem loByte_bounds (x : BitVec 16) : -128 ≤ loByte x ∧ loByte x ≤ 128 := by
  unfold loByte
  omega

theorem word_hi (x : BitVec 16) : IntOp.shrsi .vector (IntOp.addi (BitVec.signExtend 32 x) 128#32) 8#32 = W (hiByte x) := by
  have := Cert.RefArr.bounds16 x
  rw [Cert.RefArr.signExtend_eq, show (128#32 : BitVec 32) = W 128 from rfl, show (8#32 : BitVec 32) = W 8 from rfl, addi_W,
    shrsi_W .vector (by omega) (by omega) (by norm_num) (by norm_num)]
  rfl

theorem word_lo (x : BitVec 16) :
    IntOp.subi (BitVec.signExtend 32 x) (IntOp.shli .vector (IntOp.shrsi .vector (IntOp.addi (BitVec.signExtend 32 x) 128#32) 8#32) 8#32)
      = W (loByte x) := by
  rw [word_hi, Cert.RefArr.signExtend_eq, show (8#32 : BitVec 32) = W 8 from rfl, shli_W .vector _ (by norm_num) (by norm_num), subi_W]
  congr 1
  unfold loByte hiByte
  rw [show (2 : ℤ) ^ (8 : ℤ).toNat = 256 from rfl, mul_comm]

variable (x0 : Vec Ideal S256x3584 .i16) (r : Fin 256)

theorem pay3_at (k : Fin 3584) : k0_pay3 x0 (ix2 r k) = (((hiByte (x0 (ix2 r k)) : ℤ) : ℝ) : EReal) := by
  have h : k0_pay3 x0 (ix2 r k) = (FloatOps.sitofp .f32 (IntOp.shrsi .vector (IntOp.addi (BitVec.signExtend 32 (x0 (ix2 r k))) 128#32) 8#32) : Ideal .f32) := by
    pointwise [k0_pay3, k0_pay2, k0_pay1]
  rw [h, word_hi]
  have := hiByte_bounds (x0 (ix2 r k))
  show (((W (hiByte (x0 (ix2 r k)))).toInt : ℝ) : EReal) = _
  rw [toInt_W (by omega) (by omega)]

theorem pay4_at (k : Fin 3584) : k0_pay4 x0 (ix2 r k) = (((loByte (x0 (ix2 r k)) : ℤ) : ℝ) : EReal) := by
  have h : k0_pay4 x0 (ix2 r k) = (FloatOps.sitofp .f32 (IntOp.subi (BitVec.signExtend 32 (x0 (ix2 r k)))
      (IntOp.shli .vector (IntOp.shrsi .vector (IntOp.addi (BitVec.signExtend 32 (x0 (ix2 r k))) 128#32) 8#32) 8#32)) : Ideal .f32) := by
    pointwise [k0_pay4, k0_pay2, k0_pay1]
  rw [h, word_lo]
  have := loByte_bounds (x0 (ix2 r k))
  show (((W (loByte (x0 (ix2 r k)))).toInt : ℝ) : EReal) = _
  rw [toInt_W (by omega) (by omega)]

theorem halves_lo (k : Fin 3584) : halves x0 (ix2 ⟨256 + r.val, by omega⟩ k) = (((loByte (x0 (ix2 r k)) : ℤ) : ℝ) : EReal) := by
  rw [← pay4_at]
  unfold halves
  have e : (ix2 ⟨256 + r.val, by omega⟩ k : S512x3584.Idx)
      = (Rect.unit (s := S512x3584) ![256, 0] ![256, 3584] inb_S512x3584_S256x3584_256_0).emb (ix2 r k) := by
    funext a; apply Fin.ext
    match a with
    | ⟨0, _⟩ => show 256 + r.val = 256 + 1 * r.val; omega
    | ⟨1, _⟩ => show k.val = 0 + 1 * k.val; omega
  rw [e]
  exact View.canon_cons_emb _ _ _ _

theorem halves_hi (k : Fin 3584) : halves x0 (ix2 ⟨r.val, by omega⟩ k) = (((hiByte (x0 (ix2 r k)) : ℤ) : ℝ) : EReal) := by
  rw [← pay3_at]
  unfold halves
  rw [View.canon_cons_of_not_mem]
  · have e : (ix2 ⟨r.val, by omega⟩ k : S512x3584.Idx)
        = (Rect.unit (s := S512x3584) ![0, 0] ![256, 3584] inb_S512x3584_S256x3584_0_0).emb (ix2 r k) := by
      funext a; apply Fin.ext
      match a with
      | ⟨0, _⟩ => show r.val = 0 + 1 * r.val; omega
      | ⟨1, _⟩ => show k.val = 0 + 1 * k.val; omega
    rw [e]
    exact View.canon_cons_emb _ _ _ _
  · rw [Rect.mem_set_unit]
    intro h
    have h0 : 256 ≤ r.val := (h 0).1
    omega

theorem coe_sum {ι : Type} (S : Finset ι) (f : ι → ℝ) : ∑ i ∈ S, ((f i : ℝ) : EReal) = ((∑ i ∈ S, f i : ℝ) : EReal) := by
  classical
  induction S using Finset.induction_on with
  | empty => simp
  | insert a S h ih => rw [Finset.sum_insert h, ih, Finset.sum_insert h, EReal.coe_add]

/-- A sum of at most 1024 products of bytes is small. -/
theorem chunk_bounds {n : ℕ} (hn : n ≤ 3584) (s : Fin n → ℤ) (w : Fin n → BitVec 8) (hs : ∀ k, -128 ≤ s k ∧ s k ≤ 128) :
    -58720256 ≤ ∑ k, s k * (w k).toInt ∧ ∑ k, s k * (w k).toInt ≤ 58720256 := by
  have hk : ∀ k, -16384 ≤ s k * (w k).toInt ∧ s k * (w k).toInt ≤ 16384 := fun k => by
    have h1 : |s k| ≤ 128 := abs_le.2 (hs k)
    have h2 : |(w k).toInt| ≤ 128 := abs_le.2 ⟨(Cert.RefArr.bounds8 _).1, (Cert.RefArr.bounds8 _).2.le⟩
    have h3 : |s k * (w k).toInt| ≤ 128 * 128 := by
      rw [abs_mul]; exact mul_le_mul h1 h2 (abs_nonneg _) (by norm_num)
    obtain ⟨a, b⟩ := abs_le.1 h3
    constructor <;> omega
  have h1 := Finset.card_nsmul_le_sum Finset.univ (fun k => s k * (w k).toInt) (-16384) (fun k _ => (hk k).1)
  have h2 := Finset.sum_le_card_nsmul Finset.univ (fun k => s k * (w k).toInt) 16384 (fun k _ => (hk k).2)
  simp only [Finset.card_univ, Fintype.card_fin, nsmul_eq_mul] at h1 h2
  constructor <;> omega

/-- One chunk's product: an integer, so rounding and conversion keep it. -/
theorem chunk_eq {n : ℕ} (hn : n ≤ 3584) (s : Fin n → ℤ) (w : Fin n → BitVec 8) (hs : ∀ k, -128 ≤ s k ∧ s k ≤ 128) :
    Ideal.fptosi 32 (Ideal.liftRound Ideal.roundHalfEven (∑ k, (((s k : ℤ) : ℝ) : EReal) * (((w k).toInt : ℝ) : EReal)))
      = W (∑ k, s k * (w k).toInt) := by
  have e : ∑ k, (((s k : ℤ) : ℝ) : EReal) * (((w k).toInt : ℝ) : EReal) = (((∑ k, s k * (w k).toInt : ℤ) : ℝ) : EReal) := by
    simp only [← EReal.coe_mul]
    rw [coe_sum]
    push_cast
    rfl
  have hb := chunk_bounds hn s w hs
  rw [e, Ideal.liftRound_coe, rhe_int, fptosi_int _ (by omega) (by omega)]

/-- A sum over k in the kernel's four chunks. -/
theorem sum_chunks (f : Fin 3584 → ℤ) :
    ∑ k : Fin 3584, f k = ∑ k : Fin 1024, f ⟨k.val, by omega⟩ + ∑ k : Fin 1024, f ⟨1024 + k.val, by omega⟩
      + ∑ k : Fin 1024, f ⟨2048 + k.val, by omega⟩ + ∑ k : Fin 512, f ⟨3072 + k.val, by omega⟩ := by
  have h1 := Fin.sum_univ_add (a := 3072) (b := 512) f
  have h2 := Fin.sum_univ_add (a := 2048) (b := 1024) (fun k => f (Fin.castAdd 512 k))
  have h3 := Fin.sum_univ_add (a := 1024) (b := 1024) (fun k => f (Fin.castAdd 512 (Fin.castAdd 1024 k)))
  refine h1.trans ?_
  rw [h2, h3]
  rfl

/-- The payload of the four chunk products, at one element. -/
theorem pay5_at (a0 a1 a2 : Vec Ideal S512x1024 .bf16) (a3 : Vec Ideal S512x512 .bf16) (b0 b1 b2 : Vec Ideal S512x1024 .i8) (b3 : Vec Ideal S512x512 .i8)
    (R l : Fin 512) : k0_pay5 a0 b0 a1 b1 a2 b2 a3 b3 (ix2 R l) =
      IntOp.addi (IntOp.addi (IntOp.addi
        (Ideal.fptosi 32 (Ideal.liftRound Ideal.roundHalfEven (∑ k : Fin 1024, (a0 (ix2 R k) : EReal) * (((b0 (ix2 l k) : BitVec 8).toInt : ℝ) : EReal))))
        (Ideal.fptosi 32 (Ideal.liftRound Ideal.roundHalfEven (∑ k : Fin 1024, (a1 (ix2 R k) : EReal) * (((b1 (ix2 l k) : BitVec 8).toInt : ℝ) : EReal)))))
        (Ideal.fptosi 32 (Ideal.liftRound Ideal.roundHalfEven (∑ k : Fin 1024, (a2 (ix2 R k) : EReal) * (((b2 (ix2 l k) : BitVec 8).toInt : ℝ) : EReal)))))
        (Ideal.fptosi 32 (Ideal.liftRound Ideal.roundHalfEven (∑ k : Fin 512, (a3 (ix2 R k) : EReal) * (((b3 (ix2 l k) : BitVec 8).toInt : ℝ) : EReal)))) := by
  pointwise [k0_pay5]
  rfl

theorem ld_chunk {e : EltTy} (x : Vec Ideal S512x3584 e) (o : ℕ) (inb) (R : Fin 512) (k : Fin 1024) (h : o + k.val < 3584) :
    View.ld x (Rect.unit (s := S512x3584) ![0, o] ![512, 1024] inb) (ix2 R k) = x (ix2 R ⟨o + k.val, h⟩) :=
  congrArg x (by
    funext a; apply Fin.ext
    match a with
    | ⟨0, _⟩ => show 0 + 1 * R.val = R.val; omega
    | ⟨1, _⟩ => show o + 1 * k.val = o + k.val; omega)

theorem ld_last {e : EltTy} (x : Vec Ideal S512x3584 e) (o : ℕ) (inb) (R : Fin 512) (k : Fin 512) (h : o + k.val < 3584) :
    View.ld x (Rect.unit (s := S512x3584) ![0, o] ![512, 512] inb) (ix2 R k) = x (ix2 R ⟨o + k.val, h⟩) :=
  congrArg x (by
    funext a; apply Fin.ext
    match a with
    | ⟨0, _⟩ => show 0 + 1 * R.val = R.val; omega
    | ⟨1, _⟩ => show o + 1 * k.val = o + k.val; omega)

section

variable (sc : Vec Ideal S512x3584 .bf16) (x1 : Vec Ideal S512x3584 .i8) (R l : Fin 512) (s : Fin 3584 → ℤ)
  (hs : ∀ k, -128 ≤ s k ∧ s k ≤ 128) (hsc : ∀ k, sc (ix2 R k) = (((s k : ℤ) : ℝ) : EReal))

include hs hsc

theorem chunk_ld (o : ℕ) (inb) (ho : ∀ k : Fin 1024, o + k.val < 3584) :
    Ideal.fptosi 32 (Ideal.liftRound Ideal.roundHalfEven (∑ k : Fin 1024,
        (View.ld sc (Rect.unit (s := S512x3584) ![0, o] ![512, 1024] inb) (ix2 R k) : EReal)
          * (((View.ld x1 (Rect.unit (s := S512x3584) ![0, o] ![512, 1024] inb) (ix2 l k) : BitVec 8).toInt : ℝ) : EReal)))
      = W (∑ k : Fin 1024, s ⟨o + k.val, ho k⟩ * (x1 (ix2 l ⟨o + k.val, ho k⟩) : BitVec 8).toInt) := by
  rw [← chunk_eq (n := 1024) (by norm_num) (fun k => s ⟨o + k.val, ho k⟩) (fun k => x1 (ix2 l ⟨o + k.val, ho k⟩)) (fun k => hs _)]
  congr 2
  exact Finset.sum_congr rfl fun k _ => by rw [ld_chunk sc o inb R k (ho k), ld_chunk x1 o inb l k (ho k), hsc]

theorem last_ld (o : ℕ) (inb) (ho : ∀ k : Fin 512, o + k.val < 3584) :
    Ideal.fptosi 32 (Ideal.liftRound Ideal.roundHalfEven (∑ k : Fin 512,
        (View.ld sc (Rect.unit (s := S512x3584) ![0, o] ![512, 512] inb) (ix2 R k) : EReal)
          * (((View.ld x1 (Rect.unit (s := S512x3584) ![0, o] ![512, 512] inb) (ix2 l k) : BitVec 8).toInt : ℝ) : EReal)))
      = W (∑ k : Fin 512, s ⟨o + k.val, ho k⟩ * (x1 (ix2 l ⟨o + k.val, ho k⟩) : BitVec 8).toInt) := by
  rw [← chunk_eq (n := 512) (by norm_num) (fun k => s ⟨o + k.val, ho k⟩) (fun k => x1 (ix2 l ⟨o + k.val, ho k⟩)) (fun k => hs _)]
  congr 2
  exact Finset.sum_congr rfl fun k _ => by rw [ld_last sc o inb R k (ho k), ld_last x1 o inb l k (ho k), hsc]

/-- A scratch row of bytes by a weight row: the word of the sum over k. -/
theorem sums_at : sums sc x1 (ix2 R l) = W (∑ k : Fin 3584, s k * (x1 (ix2 l k) : BitVec 8).toInt) := by
  unfold sums
  rw [pay5_at, sum_chunks, chunk_ld sc x1 R l s hs hsc 0 _ (fun k => by omega), chunk_ld sc x1 R l s hs hsc 1024 _ (fun k => by omega),
    chunk_ld sc x1 R l s hs hsc 2048 _ (fun k => by omega), last_ld sc x1 R l s hs hsc 3072 _ (fun k => by omega), addi_W, addi_W, addi_W]
  simp only [Nat.zero_add]

end

section

variable (x1 : Vec Ideal S512x3584 .i8) (x2 x3 x4 x5 : Vec Ideal S1x512 .i32) (l : Fin 512)

/-- The accumulator at one row of `x` and one channel of the block: the product plus the 64-bit bias. -/
def accAt : ℤ := (∑ k : Fin 3584, (x0 (ix2 r k) : BitVec 16).toInt * (x1 (ix2 l k) : BitVec 8).toInt) + ((x2 (ix2 0 l) : BitVec 32).toNat : ℤ)
  + 2 ^ 32 * (x3 (ix2 0 l) : BitVec 32).toInt

/-- The result block at one row and channel: the accumulator times the multiplier, rounded and clipped. -/
theorem block_at (hs : -31 ≤ (x5 (ix2 0 l) : BitVec 32).toInt) (hs' : (x5 (ix2 0 l) : BitVec 32).toInt ≤ 15)
    (hM : 0 ≤ (x4 (ix2 0 l) : BitVec 32).toInt) (hH : -32764 ≤ (x3 (ix2 0 l) : BitVec 32).toInt) (hH' : (x3 (ix2 0 l) : BitVec 32).toInt ≤ 32763) :
    tail (sums (halves x0) x1) x2 x3 x4 x5 (ix2 r l)
      = BitVec.ofInt 16 (requant (accAt x0 r x1 x2 x3 l) (x4 (ix2 0 l) : BitVec 32).toInt ((x5 (ix2 0 l) : BitVec 32).toInt + 31).toNat) := by
  have hh := chunk_bounds le_rfl (fun k => hiByte (x0 (ix2 r k))) (fun k => x1 (ix2 l k)) (fun k => hiByte_bounds _)
  have hl := chunk_bounds le_rfl (fun k => loByte (x0 (ix2 r k))) (fun k => x1 (ix2 l k)) (fun k => loByte_bounds _)
  rw [tail_at, sums_at (halves x0) x1 ⟨r.val, by omega⟩ l (fun k => hiByte (x0 (ix2 r k))) (fun k => hiByte_bounds _) (halves_hi x0 r),
    sums_at (halves x0) x1 ⟨256 + r.val, by omega⟩ l (fun k => loByte (x0 (ix2 r k))) (fun k => loByte_bounds _) (halves_lo x0 r),
    ← W_toNat (x2 (ix2 0 l)), ← W_toInt (x3 (ix2 0 l)), ← W_toInt (x4 (ix2 0 l)), ← W_toInt (x5 (ix2 0 l)),
    kernelWord_eq hh.1 hh.2 hl.1 hl.2 (by omega) (by have := (x2 (ix2 0 l) : BitVec 32).isLt; omega) hH hH' hM (toInt_bounds _).2 hs hs']
  have e : 256 * (∑ k : Fin 3584, hiByte (x0 (ix2 r k)) * (x1 (ix2 l k) : BitVec 8).toInt)
      + (∑ k : Fin 3584, loByte (x0 (ix2 r k)) * (x1 (ix2 l k) : BitVec 8).toInt)
      = ∑ k : Fin 3584, (x0 (ix2 r k) : BitVec 16).toInt * (x1 (ix2 l k) : BitVec 8).toInt := by
    rw [Finset.mul_sum, ← Finset.sum_add_distrib]
    refine Finset.sum_congr rfl fun k _ => ?_
    unfold hiByte loByte
    ring
  rw [e, W_toInt, W_toInt]
  rfl

end

end Cert.KerArr

end
-- ==== Proof.KernelHost.lean ====
/- What the kernel's blocks hold of the arguments: the arrays its host lines prepare are the arguments relaid
   (`V_main_v0` … `V_main_v5`), and each window's block at a grid point is read at an index of its argument
   (`iblk0_at` … `iblk5_at`). -/
module

public import proofs.«01_k».proof.Proof.KernelDot
public import proofs.«01_k».proof.Proof.Gen.KernelIdeal.Frame
public import Idealize.ShloMosaic.Lib.Pipeline.Value
public import Idealize.ShloMosaic.Lib.Tactic
public import Idealize.ShloMosaic.Lib.ValueIdx

@[expose] public section

set_option maxRecDepth 16384

noncomputable section

open Idealize.ShloMosaic Idealize.ShloMosaic.TcCoe Idealize.SL.Sem Idealize.ShloMosaic.Pointwise

namespace Cert.KerArr

open Cert.KernelIdeal Cert.KernelIdeal.Gen

variable {F : FTy → Type} [FloatOps F]
variable (m : (ℓ : Loc nD τ sig) → Buf (Elt F) ℓ) (c : Dev nD)

/-! ## The arguments, and the arrays the host lines make of them -/

def argX : IVec S1x256x3584 16 := m ((c : Thread nD τ).loc main_arg0)
def argW : IVec S18944x3584 8 := m ((c : Thread nD τ).loc main_arg1)
def argLo : IVec S18944 32 := m ((c : Thread nD τ).loc main_arg2)
def argHi : IVec S18944 32 := m ((c : Thread nD τ).loc main_arg3)
def argM : IVec S18944 32 := m ((c : Thread nD τ).loc main_arg4)
def argS : IVec S18944 32 := m ((c : Thread nD τ).loc main_arg5)

theorem V_main_v0 : (V m c main_v0 : IVec S256x3584 16) = shapeCast S256x3584 (argX m c) shapeCasts_S1x256x3584_S256x3584 := by
  unfold V hostOps0
  after_results
  rfl

theorem V_main_v2 : (V m c main_v2 : IVec S1x18944 32) = shapeCast S1x18944 (argLo m c) shapeCasts_S18944_S1x18944 := by
  unfold V hostOps0
  after_results
  rfl

theorem V_main_v3 : (V m c main_v3 : IVec S1x18944 32) = shapeCast S1x18944 (argHi m c) shapeCasts_S18944_S1x18944 := by
  unfold V hostOps0
  after_results
  rfl

theorem V_main_v4 : (V m c main_v4 : IVec S1x18944 32) = shapeCast S1x18944 (argM m c) shapeCasts_S18944_S1x18944 := by
  unfold V hostOps0
  after_results
  rfl

theorem V_main_v5 : (V m c main_v5 : IVec S1x18944 32) = shapeCast S1x18944 (argS m c) shapeCasts_S18944_S1x18944 := by
  unfold V hostOps0
  after_results
  rfl

/-- A relaid row read at a column is the vector at that index. -/
theorem row_at {α : Type} (v : S18944.Idx → α) (h : S18944.ShapeCasts S1x18944) (n : Fin 18944) : shapeCast S1x18944 v h (ix2 0 n) = v (ix1 n) :=
  shapeCast_apply v h (ix2 0 n) (ix1 n) (by
    rw [Shape.rowMajor_val_two, Shape.rowMajor_val_one]
    show n.val = 0 * 18944 + n.val
    omega)

/-- The leading axis of extent one dropped. -/
theorem flat_at {α : Type} (v : S1x256x3584.Idx → α) (h : S1x256x3584.ShapeCasts S256x3584) (r : Fin 256) (k : Fin 3584) :
    shapeCast S256x3584 v h (ix2 r k) = v (ix3 0 r k) :=
  shapeCast_apply v h (ix2 r k) (ix3 0 r k) (by
    rw [Shape.rowMajor_val_two, Shape.rowMajor_val_three]
    show (0 * 256 + r.val) * 3584 + k.val = r.val * 3584 + k.val
    omega)

/-! ## The blocks -/

theorem index_facts : ∀ t : Fin cfg0.N, (win0_0.index t 0 = 0 ∧ win0_0.index t 1 = 0) ∧ (win0_1.index t 0 = t.val ∧ win0_1.index t 1 = 0)
    ∧ (win0_2.index t 0 = 0 ∧ win0_2.index t 1 = t.val) ∧ (win0_3.index t 0 = 0 ∧ win0_3.index t 1 = t.val)
    ∧ (win0_4.index t 0 = 0 ∧ win0_4.index t 1 = t.val) ∧ (win0_5.index t 0 = 0 ∧ win0_5.index t 1 = t.val) := by
  decide +kernel

/-- Column `l` of block `t` is channel `512 t + l`. -/
def chan (t : Fin cfg0.N) (l : Fin 512) : Fin 18944 := ⟨512 * t.val + l.val, by
  have := lt_of_lt_of_eq t.isLt (show cfg0.N = 37 from N_0)
  omega⟩

theorem iblk0_at (t : Fin cfg0.N) (r : Fin 256) (k : Fin 3584) : (iblk m c 0 t : IVec S256x3584 16) (ix2 r k) = argX m c (ix3 0 r k) := by
  have hi := (index_facts t).1
  rw [← flat_at (argX m c) shapeCasts_S1x256x3584_S256x3584 r k, ← V_main_v0]
  unfold iblk
  rw [View.read_apply]
  show V m c main_v0 _ = V m c main_v0 _
  congr 1
  funext a
  apply Fin.ext
  match a with
  | ⟨0, _⟩ => show win0_0.index t 0 * 256 + 1 * r.val = r.val; rw [hi.1]; omega
  | ⟨1, _⟩ => show win0_0.index t 1 * 3584 + 1 * k.val = k.val; rw [hi.2]; omega

theorem iblk1_at (t : Fin cfg0.N) (l : Fin 512) (k : Fin 3584) : (iblk m c 1 t : IVec S512x3584 8) (ix2 l k) = argW m c (ix2 (chan t l) k) := by
  have hi := (index_facts t).2.1
  unfold argW
  rw [← V_main_arg1 m c]
  unfold iblk
  rw [View.read_apply]
  show V m c main_arg1 _ = V m c main_arg1 _
  congr 1
  funext a
  apply Fin.ext
  match a with
  | ⟨0, _⟩ => show win0_1.index t 0 * 512 + 1 * l.val = 512 * t.val + l.val; rw [hi.1]; omega
  | ⟨1, _⟩ => show win0_1.index t 1 * 3584 + 1 * k.val = k.val; rw [hi.2]; omega

theorem iblk2_at (t : Fin cfg0.N) (l : Fin 512) : (iblk m c 2 t : IVec S1x512 32) (ix2 0 l) = argLo m c (ix1 (chan t l)) := by
  have hi := (index_facts t).2.2.1
  rw [← row_at (argLo m c) shapeCasts_S18944_S1x18944, ← V_main_v2]
  unfold iblk
  rw [View.read_apply]
  show V m c main_v2 _ = V m c main_v2 _
  congr 1
  funext a
  apply Fin.ext
  match a with
  | ⟨0, _⟩ => show win0_2.index t 0 * 1 + 1 * 0 = 0; rw [hi.1]
  | ⟨1, _⟩ => show win0_2.index t 1 * 512 + 1 * l.val = 512 * t.val + l.val; rw [hi.2]; omega

theorem iblk3_at (t : Fin cfg0.N) (l : Fin 512) : (iblk m c 3 t : IVec S1x512 32) (ix2 0 l) = argHi m c (ix1 (chan t l)) := by
  have hi := (index_facts t).2.2.2.1
  rw [← row_at (argHi m c) shapeCasts_S18944_S1x18944, ← V_main_v3]
  unfold iblk
  rw [View.read_apply]
  show V m c main_v3 _ = V m c main_v3 _
  congr 1
  funext a
  apply Fin.ext
  match a with
  | ⟨0, _⟩ => show win0_3.index t 0 * 1 + 1 * 0 = 0; rw [hi.1]
  | ⟨1, _⟩ => show win0_3.index t 1 * 512 + 1 * l.val = 512 * t.val + l.val; rw [hi.2]; omega

theorem iblk4_at (t : Fin cfg0.N) (l : Fin 512) : (iblk m c 4 t : IVec S1x512 32) (ix2 0 l) = argM m c (ix1 (chan t l)) := by
  have hi := (index_facts t).2.2.2.2.1
  rw [← row_at (argM m c) shapeCasts_S18944_S1x18944, ← V_main_v4]
  unfold iblk
  rw [View.read_apply]
  show V m c main_v4 _ = V m c main_v4 _
  congr 1
  funext a
  apply Fin.ext
  match a with
  | ⟨0, _⟩ => show win0_4.index t 0 * 1 + 1 * 0 = 0; rw [hi.1]
  | ⟨1, _⟩ => show win0_4.index t 1 * 512 + 1 * l.val = 512 * t.val + l.val; rw [hi.2]; omega

theorem iblk5_at (t : Fin cfg0.N) (l : Fin 512) : (iblk m c 5 t : IVec S1x512 32) (ix2 0 l) = argS m c (ix1 (chan t l)) := by
  have hi := (index_facts t).2.2.2.2.2
  rw [← row_at (argS m c) shapeCasts_S18944_S1x18944, ← V_main_v5]
  unfold iblk
  rw [View.read_apply]
  show V m c main_v5 _ = V m c main_v5 _
  congr 1
  funext a
  apply Fin.ext
  match a with
  | ⟨0, _⟩ => show win0_5.index t 0 * 1 + 1 * 0 = 0; rw [hi.1]
  | ⟨1, _⟩ => show win0_5.index t 1 * 512 + 1 * l.val = 512 * t.val + l.val; rw [hi.2]; omega

end Cert.KerArr

end
-- ==== Proof.KernelSweep.lean ====
/- The grid: the first point writes the scratch and every later one finds it so (`scratch_eq`, by induction on the point); every
   point's block is therefore the same function of `x` and the point's channels (`point_eq`). -/
module

public import proofs.«01_k».proof.Proof.KernelBlock
public import proofs.«01_k».proof.Proof.Gen.KernelIdeal.Value

@[expose] public section

set_option maxRecDepth 16384

noncomputable section

open Idealize.ShloMosaic Idealize.ShloMosaic.TcCoe Idealize.SL.Sem

namespace Cert.KerArr

open Cert.KernelIdeal Cert.KernelIdeal.Gen Cert.KernelIdeal.Value

variable {F : FTy → Type} [FloatOps F]
variable (m : (ℓ : Loc nD τ sig) → Buf (Elt F) ℓ) (c : Dev nD)

/-- The first grid point. -/
def first : Fin cfg0.N := ⟨0, by rw [show cfg0.N = 37 from N_0]; decide⟩

/-- `outA`, `soutA` and `outB` at a grid point's own memrefs. -/
theorem out_first (c : Dev nD) (t : Fin cfg0.N) (h0 : t.val % 37 = 0) (x0 : Vec F S256x3584 .i16) (x1 : Vec F S512x3584 .i8) (x2 x3 x4 x5 : Vec F S1x512 .i32) :
    out0_A_6 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _)
      ((hcond0_0 t).mpr h0) x0 x1 x2 x3 x4 x5 = tail (F := F) (sums (F := F) (halves (F := F) x0) x1) x2 x3 x4 x5 := by
  rw [outA]

theorem scratch_first (c : Dev nD) (t : Fin cfg0.N) (h0 : t.val % 37 = 0) (x0 : Vec F S256x3584 .i16) (x1 : Vec F S512x3584 .i8) (x2 x3 x4 x5 : Vec F S1x512 .i32) :
    sout0_A_0 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _)
      ((hcond0_0 t).mpr h0) x0 x1 x2 x3 x4 x5 = halves (F := F) x0 := by
  rw [soutA]

theorem out_later (c : Dev nD) (t : Fin cfg0.N) (h0 : ¬t.val % 37 = 0) (x0 : Vec F S256x3584 .i16) (x1 : Vec F S512x3584 .i8) (x2 x3 x4 x5 : Vec F S1x512 .i32) (xs0 : Vec F S512x3584 .bf16) :
    out0_B_6 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _)
      (fun h => h0 ((hcond0_0 t).mp h)) x0 x1 x2 x3 x4 x5 xs0 = tail (F := F) (sums (F := F) xs0 x1) x2 x3 x4 x5 := by
  rw [outB]

/-- What point `t` computes from a scratch. -/
def block (sc : Vec F S512x3584 .bf16) (t : Fin cfg0.N) : IVec S256x512 16 :=
  tail (F := F) (sums (F := F) sc (iblk m c 1 t)) (iblk m c 2 t) (iblk m c 3 t) (iblk m c 4 t) (iblk m c 5 t)

variable (t : Fin cfg0.N) (acc : Vec F S256x512 .i16 × Vec F S512x3584 .bf16)

/-- What the first point leaves: its block, and the scratch. -/
theorem first_block (h0 : t.val % 37 = 0) : (stAt0 m c t.val t.isLt acc).1 = block m c (halves (F := F) (iblk m c 0 t)) t := by
  rw [stAt0_A m c t acc h0]
  dsimp only
  rw [out_first c t h0]
  rfl

theorem first_scratch (h0 : t.val % 37 = 0) : (stAt0 m c t.val t.isLt acc).2 = halves (F := F) (iblk m c 0 t) := by
  rw [stAt0_A m c t acc h0]
  dsimp only
  rw [scratch_first c t h0]

/-- What a later point leaves: its block from the scratch, and the scratch as it was. -/
theorem later_block (h0 : ¬t.val % 37 = 0) : (stAt0 m c t.val t.isLt acc).1 = block m c acc.2 t := by
  rw [stAt0_B m c t acc h0]
  dsimp only
  rw [out_later c t h0]
  rfl

theorem later_scratch (h0 : ¬t.val % 37 = 0) : (stAt0 m c t.val t.isLt acc).2 = acc.2 := by
  rw [stAt0_B m c t acc h0]
  rfl

/-- After every point the scratch is as the first point wrote it. -/
theorem scratch_eq : ∀ (n : ℕ) (hn : n < cfg0.N), (outsAt0 m c n hn).2 = halves (F := F) (iblk m c 0 first)
  | 0, hn => by
    rw [outsAt0_zero]
    exact first_scratch m c first junk0 (Nat.zero_mod _)
  | n + 1, hn => by
    have hN := lt_of_lt_of_eq hn (show cfg0.N = 37 from N_0)
    have h0 : ¬(n + 1) % 37 = 0 := by omega
    rw [outsAt0_succ]
    exact (later_scratch m c ⟨n + 1, hn⟩ (outsAt0 m c n (Nat.lt_of_succ_lt hn)) h0).trans (scratch_eq n (Nat.lt_of_succ_lt hn))

/-- Every point's block, from that scratch. -/
theorem point_eq : ∀ (n : ℕ) (hn : n < cfg0.N), (outsAt0 m c n hn).1 = block m c (halves (F := F) (iblk m c 0 first)) ⟨n, hn⟩
  | 0, hn => by
    rw [outsAt0_zero]
    exact first_block m c first junk0 (Nat.zero_mod _)
  | n + 1, hn => by
    have hN := lt_of_lt_of_eq hn (show cfg0.N = 37 from N_0)
    have h0 : ¬(n + 1) % 37 = 0 := by omega
    rw [outsAt0_succ, ← scratch_eq m c n (Nat.lt_of_succ_lt hn)]
    exact later_block m c ⟨n + 1, hn⟩ (outsAt0 m c n (Nat.lt_of_succ_lt hn)) h0

end Cert.KerArr

end
-- ==== Proof.KernelFinal.lean ====
/- The kernel's result array: entry (r, n) is column n mod 512 of block n / 512 (`final_at`), which is the exact accumulator
   of row r and channel n requantized (`kernel_at`); and the reference's array is the same (`final_eq`). -/
module

public import proofs.«01_k».proof.Proof.KernelHost
public import proofs.«01_k».proof.Proof.KernelSweep

@[expose] public section

set_option maxRecDepth 16384

noncomputable section

open Idealize.ShloMosaic Idealize.ShloMosaic.TcCoe Idealize.SL.Sem Idealize.ShloMosaic.Pointwise

namespace Cert.KerArr

open Cert.KernelIdeal Cert.KernelIdeal.Gen Cert.KernelIdeal.Value Cert.Fixed

section
variable {F : FTy → Type} [FloatOps F]
variable (m : (ℓ : Loc nD τ sig) → Buf (Elt F) ℓ) (c : Dev nD) (r : Fin 256) (n : Fin 18944)

/-- The grid point that computes channel `n`, and the channel's column there. -/
def pointOf : Fin cfg0.N := ⟨n.val / 512, by rw [show cfg0.N = 37 from N_0]; omega⟩
def colOf : Fin 512 := ⟨n.val % 512, Nat.mod_lt _ (by decide)⟩

theorem chan_of : chan (pointOf n) (colOf n) = n := Fin.ext (by
  show 512 * (n.val / 512) + n.val % 512 = n.val
  omega)

theorem pt_eq : pt6Of (ix2 r n) = (pointOf n).val := by
  show 37 * (r.val / 256 - 0) + 1 * (n.val / 512 - 0) = n.val / 512
  omega

theorem loc_eq : loc6Of (ix2 r n) = ix2 r (colOf n) := by
  funext a
  apply Fin.ext
  match a with
  | ⟨0, _⟩ => show r.val % 256 = r.val; omega
  | ⟨1, _⟩ => rfl

theorem final_at : G6 m c (ix2 r n) = block m c (halves (F := F) (iblk m c 0 first)) (pointOf n) (ix2 r (colOf n)) := by
  have h : pt6Of (ix2 r n) < cfg0.N := lt_of_eq_of_lt (pt_eq r n) (pointOf n).isLt
  unfold G6
  rw [dif_pos h, fold0_congr m c _ _ _ (by have := (pointOf n).isLt; omega) (pt_eq r n), ← outsAt0_sweep m c (pointOf n).val (pointOf n).isLt, point_eq, loc_eq]
end

variable (m : (ℓ : Loc nD τ sig) → Buf (Elt Ideal) ℓ) (c : Dev nD) (r : Fin 256) (n : Fin 18944)

/-- What the kernel leaves at (r, n). -/
theorem kernel_at (hs : -31 ≤ (argS m c (ix1 n)).toInt) (hs' : (argS m c (ix1 n)).toInt ≤ 15) (hM : 0 ≤ (argM m c (ix1 n)).toInt)
    (hH : -32764 ≤ (argHi m c (ix1 n)).toInt) (hH' : (argHi m c (ix1 n)).toInt ≤ 32763) :
    G6 m c (ix2 r n) = BitVec.ofInt 16 (requant
      ((∑ k : Fin 3584, (argX m c (ix3 0 r k)).toInt * (argW m c (ix2 n k)).toInt) + ((argLo m c (ix1 n)).toNat : ℤ)
        + 2 ^ 32 * (argHi m c (ix1 n)).toInt)
      (argM m c (ix1 n)).toInt ((argS m c (ix1 n)).toInt + 31).toNat) := by
  have e1 := fun k => iblk1_at m c (pointOf n) (colOf n) k
  have e2 := iblk2_at m c (pointOf n) (colOf n)
  have e3 := iblk3_at m c (pointOf n) (colOf n)
  have e4 := iblk4_at m c (pointOf n) (colOf n)
  have e5 := iblk5_at m c (pointOf n) (colOf n)
  have e0 := fun k => iblk0_at m c first r k
  rw [chan_of] at e2 e3 e4 e5
  simp only [chan_of] at e1
  rw [final_at]
  unfold block
  rw [block_at _ _ _ _ _ _ _ _ (by rw [e5]; exact hs) (by rw [e5]; exact hs') (by rw [e4]; exact hM) (by rw [e3]; exact hH) (by rw [e3]; exact hH')]
  unfold accAt
  rw [e2, e3, e4, e5]
  simp only [e0, e1]

/-- The kernel's array is the reference's, from arguments that agree and channels in range. -/
theorem final_eq (V0 : Valuation Cert.ReferenceIdeal.τ Cert.ReferenceIdeal.sig (Elt Ideal))
    (hx : Cert.RefArr.xarg V0 = argX m c) (hw : Cert.RefArr.warg V0 = argW m c) (hlo : Cert.RefArr.blo V0 = argLo m c)
    (hhi : Cert.RefArr.bhi V0 = argHi m c) (hm : Cert.RefArr.mult V0 = argM m c) (hsh : Cert.RefArr.shift V0 = argS m c)
    (hb : ∀ i, -31 ≤ (argS m c i).toInt ∧ (argS m c i).toInt ≤ 15 ∧ 0 ≤ (argM m c i).toInt ∧ -32764 ≤ (argHi m c i).toInt
      ∧ (argHi m c i).toInt ≤ 32763) :
    Cert.RefArr.result V0 = G6 m c := by
  funext i
  obtain ⟨r, n, rfl⟩ : ∃ (r : Fin 256) (n : Fin 18944), i = ix2 r n := ⟨i 0, i 1, by
    funext a
    match a with
    | ⟨0, _⟩ => rfl
    | ⟨1, _⟩ => rfl⟩
  obtain ⟨h1, h2, h3, h4, h5⟩ := hb (ix1 n)
  rw [kernel_at m c r n h1 h2 h3 h4 h5,
    Cert.RefArr.result_requant V0 r n (by rw [hsh]; exact h1) (by rw [hsh]; exact h2) (by rw [hm]; exact h3) (by rw [hhi]; exact h4) (by rw [hhi]; exact h5)]
  unfold Cert.RefArr.accum Cert.RefArr.xz Cert.RefArr.wz
  rw [hx, hw, hlo, hhi, hm, hsh]

end Cert.KerArr

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.Pre_in_range
public import proofs.«01_k».proof.Proof.Gen.ReferenceIdeal.Run
public import proofs.«01_k».proof.Proof.InRange
public import proofs.«01_k».proof.Proof.KernelFinal
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel's frame: it terminates, keeps its arguments and ends with every counter at zero. -/
theorem frame_kernel : Cert.quiescent_Kernel := fun m ρ _ => Cert.Kernel.Gen.frame m ρ

theorem frame_kernelIdeal : Cert.quiescent_KernelIdeal := fun m ρ _ => Cert.KernelIdeal.Gen.frame m ρ

theorem frame_kernelIdeal_in_range : Cert.quiescent_KernelIdeal_pre_in_range := fun m ρ _ => Cert.KernelIdeal.Gen.frame m ρ

/-- The reference is a straight line of host operations and declares no semaphore. -/
theorem frame_referenceIdeal : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

theorem frame_referenceIdeal_in_range : Cert.quiescent_ReferenceIdeal_pre_in_range := fun m ρ _ =>
  frame_referenceIdeal m ρ trivial

/-- The ideal pass rewrote nothing. -/
theorem preserves : Cert.preserves_Kernel_KernelIdeal := trivial

/-- In exact arithmetic, from arguments that agree and channels in range, the kernel and the reference leave equal arrays:
    the kernel's is `Value.G6`, and `Cert.KerArr.final_eq` equates the reference's with it. -/
theorem algebraic : Cert.algebraic_KernelIdeal_ReferenceIdeal_pre_in_range := fun m g m' g' hpre hag =>
  ⟨fun c => Cert.KernelIdeal.Value.G6 m c, Cert.KernelIdeal.Value.run (F := Ideal) m g,
    (θ_run Cert.ReferenceIdeal.defs _ _).mono
      (fun _ h c => ⟨(h c).1.trans (Cert.KerArr.final_eq m c (StableHlo.launchContents m' c) (hag c).1 (hag c).2.1 (hag c).2.2.1
          (hag c).2.2.2.1 (hag c).2.2.2.2.1 (hag c).2.2.2.2.2 (Cert.Fixed.bounds_of_pre _ _ _ _ _ _ (hpre c))), (h c).2⟩)
      (Cert.ReferenceIdeal.Value.run (F := Ideal) m' g')⟩

theorem claim : Cert.Claim := ⟨Cert.Kernel.Gen.facts, Cert.KernelIdeal.Gen.facts, Cert.ReferenceIdeal.Gen.facts, Cert.Pre_in_range.Gen.facts,
  frame_kernel, frame_kernelIdeal, frame_kernelIdeal_in_range, frame_referenceIdeal, frame_referenceIdeal_in_range, preserves, algebraic⟩

end Cert.Proof

end
